-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v77_0) = v4 c
          ∧ r.2.mem ((c.tc : Thread Cert.ReferenceIdeal.nD Cert.ReferenceIdeal.τ).loc Cert.ReferenceIdeal.main_v66) = v5 c
          ∧ r.2.mem ((c.tc : Thread Cert.ReferenceIdeal.nD Cert.ReferenceIdeal.τ).loc Cert.ReferenceIdeal.main_v77_1) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S5x512x1792 : Shape := ⟨3, ![5, 512, 1792]⟩
abbrev S5 : Shape := ⟨1, ![5]⟩
abbrev S_ : Shape := ⟨0, ![]⟩
abbrev S5x1x1 : Shape := ⟨3, ![5, 1, 1]⟩
abbrev S5x4x128x14x128 : Shape := ⟨5, ![5, 4, 128, 14, 128]⟩
abbrev S5x4x14 : Shape := ⟨3, ![5, 4, 14]⟩

class Facts : Prop where
  bitsLt_bf16_f32 : FTy.bits .bf16 < FTy.bits .f32
  bcast_S_S5x512x1792 : S_.BroadcastsInDim S5x512x1792 (![] : Fin 0 → Fin S5x512x1792.rank)
  bcast_S_S5 : S_.BroadcastsInDim S5 (![] : Fin 0 → Fin S5.rank)
  bcast_S5_S5x1x1_0 : S5.BroadcastsInDim S5x1x1 (![0] : Fin 1 → Fin S5x1x1.rank)
  bcast_S5x1x1_S5x512x1792_0_1_2 : S5x1x1.BroadcastsInDim S5x512x1792 (![0, 1, 2] : Fin 3 → Fin S5x512x1792.rank)
  shapeCasts_S5x512x1792_S5x4x128x14x128 : S5x512x1792.ShapeCasts S5x4x128x14x128
  reducesTo_S5x4x128x14x128_S5x4x14_d2_4 : S5x4x128x14x128.ReducesTo [2, 4] S5x4x14
  h_S_ : 0 < S_.numel
  bcast_S_S5x4x14 : S_.BroadcastsInDim S5x4x14 (![] : Fin 0 → Fin S5x4x14.rank)
  reducesTo_S5x512x1792_S_d0_1_2 : S5x512x1792.ReducesTo [0, 1, 2] S_
  reducesTo_S5x4x14_S_d0_1_2 : S5x4x14.ReducesTo [0, 1, 2] S_
  reducesTo_S5_S_d0 : S5.ReducesTo [0] S_

variable [Facts]

def fn_part3 {F : FTy → Type} [FloatOps F] (main_arg6 : IVec S5 32) (main_v49 : FVec F S5x4x14 .f32) (main_v51 : IVec S5x512x1792 1) (main_v53 : IVec S5x512x1792 1) (main_v55 : IVec S5x512x1792 1) : IVec S_ 1 × IVec S_ 1 × IVec S_ 1 :=
  let main_v56 : IVec S5x512x1792 1 := andi main_v53 main_v55
  let main_v57 : IVec S5x512x1792 1 := ori main_v51 main_v56
  let main_c : IVec S_ 1 := constantI S_ 1 1#1
  let main_v58 : IVec S_ 1 := (fun x v => Host.reduce IntOp.andi x v reducesTo_S5x512x1792_S_d0_1_2 h_S_) main_v57 main_c
  let main_cst_15 : FVec F S_ .f32 := constant S_ .f32 0x00000000#32
  let main_v59 : FVec F S5x4x14 .f32 := broadcastInDim S5x4x14 ![] bcast_S_S5x4x14 main_cst_15
  let main_v60 : IVec S5x4x14 1 := cmpf .oeq main_v49 main_v59
  let main_cst_16 : FVec F S_ .f32 := constant S_ .f32 0x00800000#32
  let main_v61 : FVec F S5x4x14 .f32 := broadcastInDim S5x4x14 ![] bcast_S_S5x4x14 main_cst_16
  let main_v62 : IVec S5x4x14 1 := cmpf .oge main_v49 main_v61
  let main_cst_17 : FVec F S_ .f32 := constant S_ .f32 0x7E800000#32
  let main_v63 : FVec F S5x4x14 .f32 := broadcastInDim S5x4x14 ![] bcast_S_S5x4x14 main_cst_17
  let main_v64 : IVec S5x4x14 1 := cmpf .olt main_v49 main_v63
  let main_v65 : IVec S5x4x14 1 := andi main_v62 main_v64
  let main_v66 : IVec S5x4x14 1 := ori main_v60 main_v65
  let main_c_18 : IVec S_ 1 := constantI S_ 1 1#1
  let main_v67 : IVec S_ 1 := (fun x v => Host.reduce IntOp.andi x v reducesTo_S5x4x14_S_d0_1_2 h_S_) main_v66 main_c_18
  let main_c_19 : IVec S_ 32 := constantI S_ 32 0#32
  let main_v68 : IVec S5 32 := broadcastInDim S5 ![] bcast_S_S5 main_c_19
  let main_v69 : IVec S5 1 := cmpi .ne main_arg6 main_v68
  let main_c_20 : IVec S_ 1 := constantI S_ 1 1#1
  let main_v70 : IVec S_ 1 := (fun x v => Host.reduce IntOp.andi x v reducesTo_S5_S_d0 h_S_) main_v69 main_c_20
  (main_v58, main_v67, main_v70)

def fn_part2 {F : FTy → Type} [FloatOps F] (main_arg6 : IVec S5 32) (main_v2 : FVec F S5x512x1792 .f32) (main_v8 : FVec F S5x512x1792 .f32) (main_v15 : FVec F S5x512x1792 .f32) (main_v26 : FVec F S5x1x1 .f32) (main_v33 : FVec F S5x1x1 .f32) (main_v36 : FVec F S5x512x1792 .f32) (main_cst_9 : FVec F S_ .f32) : IVec S_ 1 × IVec S_ 1 × IVec S_ 1 :=
  let main_v37 : FVec F S5x512x1792 .f32 := broadcastInDim S5x512x1792 ![] bcast_S_S5x512x1792 main_cst_9
  let main_v38 : FVec F S5x512x1792 .f32 := addf main_v36 main_v37
  let main_v39 : FVec F S5x512x1792 .f32 := broadcastInDim S5x512x1792 ![0, 1, 2] bcast_S5x1x1_S5x512x1792_0_1_2 main_v33
  let main_v40 : FVec F S5x512x1792 .f32 := mulf main_v2 main_v39
  let main_v41 : FVec F S5x512x1792 .f32 := Host.divf main_v8 main_v38
  let main_v42 : FVec F S5x512x1792 .f32 := broadcastInDim S5x512x1792 ![0, 1, 2] bcast_S5x1x1_S5x512x1792_0_1_2 main_v26
  let main_v43 : FVec F S5x512x1792 .f32 := mulf main_v42 main_v41
  let main_v44 : FVec F S5x512x1792 .f32 := subf main_v40 main_v43
  let main_v45 : FVec F S5x4x128x14x128 .f32 := shapeCast S5x4x128x14x128 main_v44 shapeCasts_S5x512x1792_S5x4x128x14x128
  let main_v46 : FVec F S5x4x128x14x128 .f32 := Host.absf main_v45
  let main_cst_10 : FVec F S_ .f32 := constant S_ .f32 0xFF800000#32
  let main_v47 : FVec F S5x4x14 .f32 := (fun x v => Host.reduce FloatOps.maximumf x v reducesTo_S5x4x128x14x128_S5x4x14_d2_4 h_S_) main_v46 main_cst_10
  let main_cst_11 : FVec F S_ .f32 := constant S_ .f32 0x3B124925#32
  let main_v48 : FVec F S5x4x14 .f32 := broadcastInDim S5x4x14 ![] bcast_S_S5x4x14 main_cst_11
  let main_v49 : FVec F S5x4x14 .f32 := mulf main_v47 main_v48
  let main_cst_12 : FVec F S_ .f32 := constant S_ .f32 0x00000000#32
  let main_v50 : FVec F S5x512x1792 .f32 := broadcastInDim S5x512x1792 ![] bcast_S_S5x512x1792 main_cst_12
  let main_v51 : IVec S5x512x1792 1 := cmpf .oeq main_v15 main_v50
  let main_cst_13 : FVec F S_ .f32 := constant S_ .f32 0x00800000#32
  let main_v52 : FVec F S5x512x1792 .f32 := broadcastInDim S5x512x1792 ![] bcast_S_S5x512x1792 main_cst_13
  let main_v53 : IVec S5x512x1792 1 := cmpf .oge main_v15 main_v52
  let main_cst_14 : FVec F S_ .f32 := constant S_ .f32 0x7F7FFFFF#32
  let main_v54 : FVec F S5x512x1792 .f32 := broadcastInDim S5x512x1792 ![] bcast_S_S5x512x1792 main_cst_14
  let main_v55 : IVec S5x512x1792 1 := cmpf .ole main_v15 main_v54
  fn_part3 (F := F) main_arg6 main_v49 main_v51 main_v53 main_v55

def fn_part1 {F : FTy → Type} [FloatOps F] (main_arg5 : FVec F S5 .f32) (main_arg6 : IVec S5 32) (main_v2 : FVec F S5x512x1792 .f32) (main_v8 : FVec F S5x512x1792 .f32) (main_v15 : FVec F S5x512x1792 .f32) (main_v16 : FVec F S5 .f32) (main_v18 : FVec F S5 .f32) : IVec S_ 1 × IVec S_ 1 × IVec S_ 1 :=
  let main_cst_4 : FVec F S_ .f32 := constant S_ .f32 0x3F800000#32
  let main_v19 : FVec F S5 .f32 := broadcastInDim S5 ![] bcast_S_S5 main_cst_4
  let main_v20 : FVec F S5 .f32 := subf main_v19 main_v18
  let main_cst_5 : FVec F S_ .f32 := constant S_ .f32 0x3F733333#32
  let main_v21 : FVec F S5 .f32 := broadcastInDim S5 ![] bcast_S_S5 main_cst_5
  let main_v22 : FVec F S5 .f32 := Host.powf main_v21 main_v16
  let main_cst_6 : FVec F S_ .f32 := constant S_ .f32 0x3F800000#32
  let main_v23 : FVec F S5 .f32 := broadcastInDim S5 ![] bcast_S_S5 main_cst_6
  let main_v24 : FVec F S5 .f32 := subf main_v23 main_v22
  let main_v25 : FVec F S5 .f32 := Host.divf main_arg5 main_v20
  let main_v26 : FVec F S5x1x1 .f32 := broadcastInDim S5x1x1 ![0] bcast_S5_S5x1x1_0 main_v25
  let main_v27 : FVec F S5 .f32 := Host.sqrt main_v24
  let main_v28 : FVec F S5x1x1 .f32 := broadcastInDim S5x1x1 ![0] bcast_S5_S5x1x1_0 main_v27
  let main_cst_7 : FVec F S_ .f32 := constant S_ .f32 0x3DCCCCCD#32
  let main_v29 : FVec F S5 .f32 := broadcastInDim S5 ![] bcast_S_S5 main_cst_7
  let main_v30 : FVec F S5 .f32 := mulf main_arg5 main_v29
  let main_cst_8 : FVec F S_ .f32 := constant S_ .f32 0x3F800000#32
  let main_v31 : FVec F S5 .f32 := broadcastInDim S5 ![] bcast_S_S5 main_cst_8
  let main_v32 : FVec F S5 .f32 := subf main_v31 main_v30
  let main_v33 : FVec F S5x1x1 .f32 := broadcastInDim S5x1x1 ![0] bcast_S5_S5x1x1_0 main_v32
  let main_v34 : FVec F S5x512x1792 .f32 := Host.sqrt main_v15
  let main_v35 : FVec F S5x512x1792 .f32 := broadcastInDim S5x512x1792 ![0, 1, 2] bcast_S5x1x1_S5x512x1792_0_1_2 main_v28
  let main_v36 : FVec F S5x512x1792 .f32 := Host.divf main_v34 main_v35
  let main_cst_9 : FVec F S_ .f32 := constant S_ .f32 0x322BCC77#32
  fn_part2 (F := F) main_arg6 main_v2 main_v8 main_v15 main_v26 main_v33 main_v36 main_cst_9

def fn {F : FTy → Type} [FloatOps F] (main_arg0 : FVec F S5x512x1792 .bf16) (main_arg1 : FVec F S5x512x1792 .bf16) (main_arg2 : FVec F S5x512x1792 .bf16) (main_arg3 : FVec F S5x512x1792 .f32) (main_arg4 : FVec F S5x512x1792 .f32) (main_arg5 : FVec F S5 .f32) (main_arg6 : IVec S5 32) : IVec S_ 1 × IVec S_ 1 × IVec S_ 1 :=
  let main_v0 : FVec F S5x512x1792 .f32 := (extf .f32 · bitsLt_bf16_f32) main_arg0
  let main_v1 : FVec F S5x512x1792 .f32 := (extf .f32 · bitsLt_bf16_f32) main_arg1
  let main_v2 : FVec F S5x512x1792 .f32 := addf main_v0 main_v1
  let main_v3 : FVec F S5x512x1792 .f32 := (extf .f32 · bitsLt_bf16_f32) main_arg2
  let main_cst : FVec F S_ .f32 := constant S_ .f32 0x3F666666#32
  let main_v4 : FVec F S5x512x1792 .f32 := broadcastInDim S5x512x1792 ![] bcast_S_S5x512x1792 main_cst
  let main_v5 : FVec F S5x512x1792 .f32 := mulf main_v4 main_arg3
  let main_cst_0 : FVec F S_ .f32 := constant S_ .f32 0x3DCCCCCD#32
  let main_v6 : FVec F S5x512x1792 .f32 := broadcastInDim S5x512x1792 ![] bcast_S_S5x512x1792 main_cst_0
  let main_v7 : FVec F S5x512x1792 .f32 := mulf main_v6 main_v3
  let main_v8 : FVec F S5x512x1792 .f32 := addf main_v5 main_v7
  let main_v9 : FVec F S5x512x1792 .f32 := (extf .f32 · bitsLt_bf16_f32) main_arg2
  let main_cst_1 : FVec F S_ .f32 := constant S_ .f32 0x3F733333#32
  let main_v10 : FVec F S5x512x1792 .f32 := broadcastInDim S5x512x1792 ![] bcast_S_S5x512x1792 main_cst_1
  let main_v11 : FVec F S5x512x1792 .f32 := mulf main_v10 main_arg4
  let main_cst_2 : FVec F S_ .f32 := constant S_ .f32 0x3D4CCCCD#32
  let main_v12 : FVec F S5x512x1792 .f32 := broadcastInDim S5x512x1792 ![] bcast_S_S5x512x1792 main_cst_2
  let main_v13 : FVec F S5x512x1792 .f32 := mulf main_v12 main_v9
  let main_v14 : FVec F S5x512x1792 .f32 := mulf main_v13 main_v9
  let main_v15 : FVec F S5x512x1792 .f32 := addf main_v11 main_v14
  let main_v16 : FVec F S5 .f32 := sitofp .f32 main_arg6
  let main_cst_3 : FVec F S_ .f32 := constant S_ .f32 0x3F666666#32
  let main_v17 : FVec F S5 .f32 := broadcastInDim S5 ![] bcast_S_S5 main_cst_3
  let main_v18 : FVec F S5 .f32 := Host.powf main_v17 main_v16
  fn_part1 (F := F) main_arg5 main_arg6 main_v2 main_v8 main_v15 main_v16 main_v18
-- ==== Kernel.lean ====
abbrev S5x512x1792 : Shape := ⟨3, ![5, 512, 1792]⟩
abbrev S5 : Shape := ⟨1, ![5]⟩
abbrev S5x4x14 : Shape := ⟨3, ![5, 4, 14]⟩
abbrev S5x1792x512 : Shape := ⟨3, ![5, 1792, 512]⟩
abbrev S1x128x1792 : Shape := ⟨3, ![1, 128, 1792]⟩
abbrev S1x4x14 : Shape := ⟨3, ![1, 4, 14]⟩
abbrev S1x1792x128 : Shape := ⟨3, ![1, 1792, 128]⟩
abbrev S1 : Shape := ⟨1, ![1]⟩
abbrev S8x128 : Shape := ⟨2, ![8, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S1x1 : Shape := ⟨2, ![1, 1]⟩
abbrev S1x256 : Shape := ⟨2, ![1, 256]⟩
abbrev S1x14 : Shape := ⟨2, ![1, 14]⟩
abbrev S1x1x14 : Shape := ⟨3, ![1, 1, 14]⟩

abbrev nBuf : Space → Nat
  | .hbm => 14
  | .vmem => 24
  | .smem => 2
  | _ => 0

abbrev bufTy : (tb : Table) → Fin (tcTables nBuf tb) → BufTy
  | .hbm, ⟨0, _⟩ => ⟨S5x512x1792, .bf16⟩
  | .hbm, ⟨1, _⟩ => ⟨S5x512x1792, .bf16⟩
  | .hbm, ⟨2, _⟩ => ⟨S5x512x1792, .bf16⟩
  | .hbm, ⟨3, _⟩ => ⟨S5x512x1792, .f32⟩
  | .hbm, ⟨4, _⟩ => ⟨S5x512x1792, .f32⟩
  | .hbm, ⟨5, _⟩ => ⟨S5, .f32⟩
  | .hbm, ⟨6, _⟩ => ⟨S5, .i32⟩
  | .hbm, ⟨7, _⟩ => ⟨S5x512x1792, .bf16⟩
  | .hbm, ⟨8, _⟩ => ⟨S5x512x1792, .bf16⟩
  | .hbm, ⟨9, _⟩ => ⟨S5x512x1792, .f32⟩
  | .hbm, ⟨10, _⟩ => ⟨S5x512x1792, .f32⟩
  | .hbm, ⟨11, _⟩ => ⟨S5x512x1792, .fp8e4m3⟩
  | .hbm, ⟨12, _⟩ => ⟨S5x4x14, .f32⟩
  | .hbm, ⟨13, _⟩ => ⟨S5x1792x512, .fp8e4m3⟩
  | .local _ .vmem, ⟨0, _⟩ => ⟨S1x128x1792, .bf16⟩
  | .local _ .vmem, ⟨1, _⟩ => ⟨S1x128x1792, .bf16⟩
  | .local _ .vmem, ⟨2, _⟩ => ⟨S1x128x1792, .bf16⟩
  | .local _ .vmem, ⟨3, _⟩ => ⟨S1x128x1792, .bf16⟩
  | .local _ .vmem, ⟨4, _⟩ => ⟨S1x128x1792, .bf16⟩
  | .local _ .vmem, ⟨5, _⟩ => ⟨S1x128x1792, .bf16⟩
  | .local _ .vmem, ⟨6, _⟩ => ⟨S1x128x1792, .f32⟩
  | .local _ .vmem, ⟨7, _⟩ => ⟨S1x128x1792, .f32⟩
  | .local _ .vmem, ⟨8, _⟩ => ⟨S1x128x1792, .f32⟩
  | .local _ .vmem, ⟨9, _⟩ => ⟨S1x128x1792, .f32⟩
  | .local _ .vmem, ⟨10, _⟩ => ⟨S1x128x1792, .bf16⟩
  | .local _ .vmem, ⟨11, _⟩ => ⟨S1x128x1792, .bf16⟩
  | .local _ .vmem, ⟨12, _⟩ => ⟨S1x128x1792, .bf16⟩
  | .local _ .vmem, ⟨13, _⟩ => ⟨S1x128x1792, .bf16⟩
  | .local _ .vmem, ⟨14, _⟩ => ⟨S1x128x1792, .f32⟩
  | .local _ .vmem, ⟨15, _⟩ => ⟨S1x128x1792, .f32⟩
  | .local _ .vmem, ⟨16, _⟩ => ⟨S1x128x1792, .f32⟩
  | .local _ .vmem, ⟨17, _⟩ => ⟨S1x128x1792, .f32⟩
  | .local _ .vmem, ⟨18, _⟩ => ⟨S1x128x1792, .fp8e4m3⟩
  | .local _ .vmem, ⟨19, _⟩ => ⟨S1x128x1792, .fp8e4m3⟩
  | .local _ .vmem, ⟨20, _⟩ => ⟨S1x4x14, .f32⟩
  | .local _ .vmem, ⟨21, _⟩ => ⟨S1x4x14, .f32⟩
  | .local _ .vmem, ⟨22, _⟩ => ⟨S1x1792x128, .fp8e4m3⟩
  | .local _ .vmem, ⟨23, _⟩ => ⟨S1x1792x128, .fp8e4m3⟩
  | .local _ .smem, ⟨0, _⟩ => ⟨S5, .f32⟩
  | .local _ .smem, ⟨1, _⟩ => ⟨S5, .i32⟩
  | _, _ => ⟨S5x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![5, 4], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let c0_787 : Index := 0#32
  let arg1 : BitVec 32 := BitVec.ofNat 32 (i 1).val
  let v1695 : Index := Scalar.indexCast arg1
  let c0_788 : Index := 0#32
  ![0, v1695.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1792 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x14 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1792x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S5x512x1792 : Shape := ⟨3, ![5, 512, 1792]⟩
abbrev S5 : Shape := ⟨1, ![5]⟩
abbrev S_ : Shape := ⟨0, ![]⟩
abbrev S5x1x1 : Shape := ⟨3, ![5, 1, 1]⟩
abbrev S5x4x128x14x128 : Shape := ⟨5, ![5, 4, 128, 14, 128]⟩
abbrev S5x4x14 : Shape := ⟨3, ![5, 4, 14]⟩
abbrev S5x4x1x14x1 : Shape := ⟨5, ![5, 4, 1, 14, 1]⟩
abbrev S5x1792x512 : Shape := ⟨3, ![5, 1792, 512]⟩

abbrev nBuf : Space → Nat
  | .hbm => 114
  | .vmem => 4
  | .smem => 0
  | _ => 0

abbrev bufTy : (tb : Table) → Fin (tcTables nBuf tb) → BufTy
  | .hbm, ⟨0, _⟩ => ⟨S5x512x1792, .bf16⟩
  | .hbm, ⟨1, _⟩ => ⟨S5x512x1792, .bf16⟩
  | .hbm, ⟨2, _⟩ => ⟨S5x512x1792, .bf16⟩
  | .hbm, ⟨3, _⟩ => ⟨S5x512x1792, .f32⟩
  | .hbm, ⟨4, _⟩ => ⟨S5x512x1792, .f32⟩
  | .hbm, ⟨5, _⟩ => ⟨S5, .f32⟩
  | .hbm, ⟨6, _⟩ => ⟨S5, .i32⟩
  | .hbm, ⟨7, _⟩ => ⟨S5x512x1792, .f32⟩
  | .hbm, ⟨8, _⟩ => ⟨S5x512x1792, .f32⟩
  | .hbm, ⟨9, _⟩ => ⟨S5x512x1792, .f32⟩
  | .hbm, ⟨10, _⟩ => ⟨S5x512x1792, .f32⟩
  | .hbm, ⟨11, _⟩ => ⟨S_, .f32⟩
  | .hbm, ⟨12, _⟩ => ⟨S5x512x1792, .f32⟩
  | .hbm, ⟨13, _⟩ => ⟨S5x512x1792, .f32⟩
  | .hbm, ⟨14, _⟩ => ⟨S_, .f32⟩
  | .hbm, ⟨15, _⟩ => ⟨S5x512x1792, .f32⟩
  | .hbm, ⟨16, _⟩ => ⟨S5x512x1792, .f32⟩
  | .hbm, ⟨17, _⟩ => ⟨S5x512x1792, .f32⟩
  | .hbm, ⟨18, _⟩ => ⟨S5x512x1792, .f32⟩
  | .hbm, ⟨19, _⟩ => ⟨S_, .f32⟩
  | .hbm, ⟨20, _⟩ => ⟨S5x512x1792, .f32⟩
  | .hbm, ⟨21, _⟩ => ⟨S5x512x1792, .f32⟩
  | .hbm, ⟨22, _⟩ => ⟨S_, .f32⟩
  | .hbm, ⟨23, _⟩ => ⟨S5x512x1792, .f32⟩
  | .hbm, ⟨24, _⟩ => ⟨S5x512x1792, .f32⟩
  | .hbm, ⟨25, _⟩ => ⟨S5x512x1792, .f32⟩
  | .hbm, ⟨26, _⟩ => ⟨S5x512x1792, .f32⟩
  | .hbm, ⟨27, _⟩ => ⟨S5, .f32⟩
  | .hbm, ⟨28, _⟩ => ⟨S_, .f32⟩
  | .hbm, ⟨29, _⟩ => ⟨S5, .f32⟩
  | .hbm, ⟨30, _⟩ => ⟨S5, .f32⟩
  | .hbm, ⟨31, _⟩ => ⟨S_, .f32⟩
  | .hbm, ⟨32, _⟩ => ⟨S5, .f32⟩
  | .hbm, ⟨33, _⟩ => ⟨S5, .f32⟩
  | .hbm, ⟨34, _⟩ => ⟨S_, .f32⟩
  | .hbm, ⟨35, _⟩ => ⟨S5, .f32⟩
  | .hbm, ⟨36, _⟩ => ⟨S5, .f32⟩
  | .hbm, ⟨37, _⟩ => ⟨S_, .f32⟩
  | .hbm, ⟨38, _⟩ => ⟨S5, .f32⟩
  | .hbm, ⟨39, _⟩ => ⟨S5, .f32⟩
  | .hbm, ⟨40, _⟩ => ⟨S5, .f32⟩
  | .hbm, ⟨41, _⟩ => ⟨S5x1x1, .f32⟩
  | .hbm, ⟨42, _⟩ => ⟨S5, .f32⟩
  | .hbm, ⟨43, _⟩ => ⟨S5x1x1, .f32⟩
  | .hbm, ⟨44, _⟩ => ⟨S_, .f32⟩
  | .hbm, ⟨45, _⟩ => ⟨S5, .f32⟩
  | .hbm, ⟨46, _⟩ => ⟨S5, .f32⟩
  | .hbm, ⟨47, _⟩ => ⟨S_, .f32⟩
  | .hbm, ⟨48, _⟩ => ⟨S5, .f32⟩
  | .hbm, ⟨49, _⟩ => ⟨S5, .f32⟩
  | .hbm, ⟨50, _⟩ => ⟨S5x1x1, .f32⟩
  | .hbm, ⟨51, _⟩ => ⟨S5x512x1792, .f32⟩
  | .hbm, ⟨52, _⟩ => ⟨S5x512x1792, .f32⟩
  | .hbm, ⟨53, _⟩ => ⟨S5x512x1792, .f32⟩
  | .hbm, ⟨54, _⟩ => ⟨S_, .f32⟩
  | .hbm, ⟨55, _⟩ => ⟨S5x512x1792, .f32⟩
  | .hbm, ⟨56, _⟩ => ⟨S5x512x1792, .f32⟩
  | .hbm, ⟨57, _⟩ => ⟨S5x512x1792, .f32⟩
  | .hbm, ⟨58, _⟩ => ⟨S5x512x1792, .f32⟩
  | .hbm, ⟨59, _⟩ => ⟨S5x512x1792, .f32⟩
  | .hbm, ⟨60, _⟩ => ⟨S5x512x1792, .f32⟩
  | .hbm, ⟨61, _⟩ => ⟨S5x512x1792, .f32⟩
  | .hbm, ⟨62, _⟩ => ⟨S5x512x1792, .f32⟩
  | .hbm, ⟨63, _⟩ => ⟨S5x512x1792, .bf16⟩
  | .hbm, ⟨64, _⟩ => ⟨S5x512x1792, .f32⟩
  | .hbm, ⟨65, _⟩ => ⟨S5x512x1792, .f32⟩
  | .hbm, ⟨66, _⟩ => ⟨S5x512x1792, .bf16⟩
  | .hbm, ⟨67, _⟩ => ⟨S5x512x1792, .f32⟩
  | .hbm, ⟨68, _⟩ => ⟨S5x4x128x14x128, .f32⟩
  | .hbm, ⟨69, _⟩ => ⟨S5x4x128x14x128, .f32⟩
  | .hbm, ⟨70, _⟩ => ⟨S_, .f32⟩
  | .hbm, ⟨71, _⟩ => ⟨S5x4x14, .f32⟩
  | .hbm, ⟨72, _⟩ => ⟨S_, .f32⟩
  | .hbm, ⟨73, _⟩ => ⟨S5x4x14, .f32⟩
  | .hbm, ⟨74, _⟩ => ⟨S5x4x14, .f32⟩
  | .hbm, ⟨75, _⟩ => ⟨S5x4x14, .f32⟩
  | .hbm, ⟨76, _⟩ => ⟨S_, .f32⟩
  | .hbm, ⟨77, _⟩ => ⟨S_, .f32⟩
  | .hbm, ⟨78, _⟩ => ⟨S5x4x14, .f32⟩
  | .hbm, ⟨79, _⟩ => ⟨S5x4x14, .f32⟩
  | .hbm, ⟨80, _⟩ => ⟨S5x4x14, .f32⟩
  | .hbm, ⟨81, _⟩ => ⟨S_, .f32⟩
  | .hbm, ⟨82, _⟩ => ⟨S5x4x14, .f32⟩
  | .hbm, ⟨83, _⟩ => ⟨S5x4x14, .f32⟩
  | .hbm, ⟨84, _⟩ => ⟨S_, .f32⟩
  | .hbm, ⟨85, _⟩ => ⟨S5x4x14, .f32⟩
  | .hbm, ⟨86, _⟩ => ⟨S5x4x14, .i1⟩
  | .hbm, ⟨87, _⟩ => ⟨S_, .i32⟩
  | .hbm, ⟨88, _⟩ => ⟨S_, .f32⟩
  | .hbm, ⟨89, _⟩ => ⟨S5x4x14, .f32⟩
  | .hbm, ⟨90, _⟩ => ⟨S5x4x14, .f32⟩
  | .hbm, ⟨91, _⟩ => ⟨S_, .f32⟩
  | .hbm, ⟨92, _⟩ => ⟨S5x4x14, .f32⟩
  | .hbm, ⟨93, _⟩ => ⟨S5x4x14, .f32⟩
  | .hbm, ⟨94, _⟩ => ⟨S5x4x14, .f32⟩
  | .hbm, ⟨95, _⟩ => ⟨S_, .f32⟩
  | .hbm, ⟨96, _⟩ => ⟨S5x4x14, .f32⟩
  | .hbm, ⟨97, _⟩ => ⟨S5x4x14, .f32⟩
  | .hbm, ⟨98, _⟩ => ⟨S5x4x128x14x128, .f32⟩
  | .hbm, ⟨99, _⟩ => ⟨S5x4x1x14x1, .f32⟩
  | .hbm, ⟨100, _⟩ => ⟨S5x4x128x14x128, .f32⟩
  | .hbm, ⟨101, _⟩ => ⟨S5x4x128x14x128, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S5x4x128x14x128, .f32⟩
  | .hbm, ⟨106, _⟩ => ⟨S5x4x128x14x128, .f32⟩
  | .hbm, ⟨107, _⟩ => ⟨S_, .f32⟩
  | .hbm, ⟨108, _⟩ => ⟨S5x4x128x14x128, .f32⟩
  | .hbm, ⟨109, _⟩ => ⟨S5x4x128x14x128, .f32⟩
  | .hbm, ⟨110, _⟩ => ⟨S5x512x1792, .f32⟩
  | .hbm, ⟨111, _⟩ => ⟨S5x1792x512, .f32⟩
  | .hbm, ⟨112, _⟩ => ⟨S5x512x1792, .fp8e4m3⟩
  | .hbm, ⟨113, _⟩ => ⟨S5x1792x512, .fp8e4m3⟩
  | .local _ .vmem, ⟨0, _⟩ => ⟨S5x512x1792, .f32⟩
  | .local _ .vmem, ⟨1, _⟩ => ⟨S5x1792x512, .f32⟩
  | .local _ .vmem, ⟨2, _⟩ => ⟨S5x512x1792, .fp8e4m3⟩
  | .local _ .vmem, ⟨3, _⟩ => ⟨S5x1792x512, .fp8e4m3⟩
  | _, _ => ⟨S5x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_c : Ref sig .tc := ⟨.hbm, 87, rfl⟩
abbrev main_call0_v0 : Ref sig .tc := ⟨.hbm, 88, rfl⟩
abbrev main_call0_v1 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_cst_18 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77_0 : Ref sig .tc := ⟨.hbm, 112, rfl⟩
abbrev main_v77_1 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5x512x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1792x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x512x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1792x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/- The run of the kernel's body at a grid point: which pieces it stores in each output buffer. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Pipeline.DatRel
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Each window's current staging buffer at a grid point, and that it is a whole buffer. -/

abbrev ms0_0 (t : Fin cfg0.N) : Memref sig .tc .smem S5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1792 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1792 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1792 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x1792 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x1792 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x1792 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x1792 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x1792 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x1792 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x1792 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x14 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1792x128 .fp8e4m3 := win0_13.stage (cfg0.slots t 13)
abbrev hs0_13 (t : Fin cfg0.N) : (ms0_13 t).IsWhole := hstage0_13 ((cfg0.slots t 13).cast nbuf0_13)

set_option maxHeartbeats 1868000 in
/-- What the body's stores leave in each output buffer, as lists of pieces (last store first), with the proof that the
    body runs from the inputs' blocks, the outputs' buffers at anything and the scales' buffer at known contents `y`, and
    ends with the inputs' blocks as they were and each output's buffer with its pieces written. -/
noncomputable def kernelRun (c : Dev nD) (i : grid0.Coords) (arg2 : Memref sig .tc .smem S5 .f32) (harg2 : arg2.IsWhole) (arg3 : Memref sig .tc .smem S5 .i32) (harg3 : arg3.IsWhole) (arg4 : Memref sig .tc .vmem S1x128x1792 .bf16) (harg4 : arg4.IsWhole) (arg5 : Memref sig .tc .vmem S1x128x1792 .bf16) (harg5 : arg5.IsWhole) (arg6 : Memref sig .tc .vmem S1x128x1792 .bf16) (harg6 : arg6.IsWhole) (arg7 : Memref sig .tc .vmem S1x128x1792 .f32) (harg7 : arg7.IsWhole) (arg8 : Memref sig .tc .vmem S1x128x1792 .f32) (harg8 : arg8.IsWhole) (arg9 : Memref sig .tc .vmem S1x128x1792 .bf16) (harg9 : arg9.IsWhole) (arg10 : Memref sig .tc .vmem S1x128x1792 .bf16) (harg10 : arg10.IsWhole) (arg11 : Memref sig .tc .vmem S1x128x1792 .f32) (harg11 : arg11.IsWhole) (arg12 : Memref sig .tc .vmem S1x128x1792 .f32) (harg12 : arg12.IsWhole) (arg13 : Memref sig .tc .vmem S1x128x1792 .fp8e4m3) (harg13 : arg13.IsWhole) (arg14 : Memref sig .tc .vmem S1x4x14 .f32) (harg14 : arg14.IsWhole) (arg15 : Memref sig .tc .vmem S1x1792x128 .fp8e4m3) (harg15 : arg15.IsWhole)
    (x0 : Vec F S5 .f32) (x1 : Vec F S5 .i32) (x2 : Vec F S1x128x1792 .bf16) (x3 : Vec F S1x128x1792 .bf16) (x4 : Vec F S1x128x1792 .bf16) (x5 : Vec F S1x128x1792 .f32) (x6 : Vec F S1x128x1792 .f32) (y : Vec F S1x4x14 .f32) :
    Σ' (L7 : List (View.Piece (Elt F) S1x128x1792 .bf16)), Σ' (L8 : List (View.Piece (Elt F) S1x128x1792 .bf16)), Σ' (L9 : List (View.Piece (Elt F) S1x128x1792 .f32)), Σ' (L10 : List (View.Piece (Elt F) S1x128x1792 .f32)), Σ' (L11 : List (View.Piece (Elt F) S1x128x1792 .fp8e4m3)), Σ' (L12 : List (View.Piece (Elt F) S1x4x14 .f32)), { L13 : List (View.Piece (Elt F) S1x1792x128 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread y) L12) ∗ (∃ f, arg15.view.loc (c : Thread nD τ) ↦[arg15.view.set]{fullShare} arg15.view.writes (Elt F) f L13)) -∗ K ⟨⟩))
          ⊢ wp frame (wpE (defs₀ (F := F)) Variants.none c none) E (cc0_adamw_fp8 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_adamw_fp8_eq_skeleton]; unfold cc0_adamw_fp8_skel
    simp only [k0_part44_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    iexists _; iexact H13

end Cert.KernelIdeal.Hand

end
-- ==== Proof.KernelTiles.lean ====
/- What the kernel's body computes for one column block of 128 columns, and that every piece it stores is that. -/
module

public import proofs.«01_k».proof.Proof.KernelRun
public import Idealize.ShloMosaic.Lib.ValueIdxCore
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- Column block `k` of a row block: its 128 columns from `128 * k`. -/
def tileOf {e : EltTy} (x : Vec F S1x128x1792 e) (k : Fin 14) : Vec F S1x128x128 e :=
  View.ld x (Rect.unit ![0, 0, 128 * k.val] S1x128x128.size (by intro a; fin_cases a <;> simp [S1x128x128, S1x128x1792] <;> omega))

section Tile

variable (lr : Elt F .f32) (st : Elt F .i32) (w wc g : Vec F S1x128x128 .bf16) (m v : Vec F S1x128x128 .f32)

/-- The exact new weights of a column block, before they are rounded. -/
def tExact : FVec F S128x128 .f32 :=
  k0_pay15 (k0_pay5 lr st) (k0_pay6 st) (k0_pay7 lr) (k0_pay9 w wc) (k0_pay10 g) m v

/-- The new weights of a column block. -/
def tW : FVec F S128x128 .bf16 :=
  k0_pay16 (k0_pay5 lr st) (k0_pay6 st) (k0_pay7 lr) (k0_pay9 w wc) (k0_pay10 g) m v

/-- The exponent of a column block's scale. -/
def tExp : IVec S1x1 32 := k0_pay19 (tW lr st w wc g m v)

/-- The new weights as they are stored. -/
def tNew : Vec F S1x128x128 .bf16 := k0_pay17 (tW lr st w wc g m v)

/-- What rounding left of the new weights. -/
def tComp : Vec F S1x128x128 .bf16 := k0_pay18 (tExact lr st w wc g m v) (tW lr st w wc g m v)

/-- The first moment. -/
def tM : Vec F S1x128x128 .f32 := k0_pay13 (k0_pay10 g) m

/-- The second moment. -/
def tV : Vec F S1x128x128 .f32 := k0_pay14 (k0_pay10 g) v

/-- The codes. -/
def tCodes : Vec F S1x128x128 .fp8e4m3 := k0_pay24 (tW lr st w wc g m v) (tExp lr st w wc g m v)

/-- The transposed codes. -/
def tCodesT : Vec F S1x128x128 .fp8e4m3 := k0_pay25 (tW lr st w wc g m v) (tExp lr st w wc g m v)

/-- The row of scales with column block `k`'s scale put at position `k`. -/
def sStep (k : BitVec 32) (e : IVec S1x1 32) (row : FVec F S1x128 .f32) : FVec F S1x128 .f32 :=
  select (cmpi .eq (iota .tc S1x128 32 [1] iota_S1x128_d1_w32) (broadcast S1x128 k))
    (broadcastTo S1x128 (shapeCast S1x1 (bitcastToFloat .f32 (shli (addi (broadcast S1x1 127#32) e) (broadcast S1x1 23#32))) shapeCasts_S1x1_S1x1) broadcasts_S1x1_S1x128) row

end Tile

section Block

variable (x0 : Elt F .f32) (x1 : Elt F .i32) (x2 x3 x4 : Vec F S1x128x1792 .bf16) (x5 x6 : Vec F S1x128x1792 .f32)

/-- The row of scales after the first `n` column blocks. -/
def sAcc : ℕ → FVec F S1x128 .f32
  | 0 => k0_pay8
  | n + 1 => sStep (BitVec.ofNat 32 n)
      (tExp x0 x1 (tileOf x2 (Fin.ofNat 14 n)) (tileOf x3 (Fin.ofNat 14 n)) (tileOf x4 (Fin.ofNat 14 n)) (tileOf x5 (Fin.ofNat 14 n)) (tileOf x6 (Fin.ofNat 14 n))) (sAcc n)

/-- The row of scales as it is stored. -/
def sRow : FVec F S1x1x14 .f32 := k0_pay2 (sAcc x0 x1 x2 x3 x4 x5 x6 14)

end Block

/-- A row block made of its column blocks. -/
def ofTiles {e : EltTy} (f : Fin 14 → Vec F S1x128x128 e) : Vec F S1x128x1792 e := fun y =>
  f ⟨(y 2).val / 128, by have h : (y 2).val < 1792 := (y 2).isLt; omega⟩
    (ix3 (y 0) (y 1) ⟨(y 2).val % 128, Nat.mod_lt _ (by decide)⟩)

/-- A block of the transposed codes made of its row blocks of 128 rows. -/
def ofTilesT {e : EltTy} (f : Fin 14 → Vec F S1x128x128 e) : Vec F S1x1792x128 e := fun y =>
  f ⟨(y 1).val / 128, by have h : (y 1).val < 1792 := (y 1).isLt; omega⟩
    (ix3 (y 0) ⟨(y 1).val % 128, Nat.mod_lt _ (by decide)⟩ (y 2))

/-- Read inside column block `k`, it is that block. -/
theorem ofTiles_emb {e : EltTy} (f : Fin 14 → Vec F S1x128x128 e) (k : Fin 14) (o : ℕ) (ho : o = 128 * k.val)
    (inb : ∀ a, (![0, 0, o] : Fin 3 → ℕ) a + S1x128x128.size a ≤ S1x128x1792.size a) (z : S1x128x128.Idx) :
    f k z = ofTiles f ((Rect.unit (s := S1x128x1792) ![0, 0, o] S1x128x128.size inb).emb z) := by
  subst ho
  have h0 : (z 0).val < 1 := (z 0).isLt
  have h2 : (z 2).val < 128 := (z 2).isLt
  unfold ofTiles
  have hk : (⟨(((Rect.unit (s := S1x128x1792) ![0, 0, 128 * k.val] S1x128x128.size inb).emb z) 2).val / 128, by
      have h : (((Rect.unit (s := S1x128x1792) ![0, 0, 128 * k.val] S1x128x128.size inb).emb z) 2).val < 1792 := Fin.isLt _
      omega⟩ : Fin 14) = k := by
    apply Fin.ext
    show (128 * k.val + 1 * (z 2).val) / 128 = k.val
    omega
  rw [hk]
  congr 1
  funext a
  apply Fin.ext
  match a with
  | ⟨0, _⟩ => show (z 0).val = 0 + 1 * (z 0).val; omega
  | ⟨1, _⟩ => show (z 1).val = 0 + 1 * (z 1).val; omega
  | ⟨2, _⟩ => show (z 2).val = (128 * k.val + 1 * (z 2).val) % 128; omega

/-- Read inside row block `k`, it is that block. -/
theorem ofTilesT_emb {e : EltTy} (f : Fin 14 → Vec F S1x128x128 e) (k : Fin 14) (o : ℕ) (ho : o = 128 * k.val)
    (inb : ∀ a, (![0, o, 0] : Fin 3 → ℕ) a + S1x128x128.size a ≤ S1x1792x128.size a) (z : S1x128x128.Idx) :
    f k z = ofTilesT f ((Rect.unit (s := S1x1792x128) ![0, o, 0] S1x128x128.size inb).emb z) := by
  subst ho
  have h0 : (z 0).val < 1 := (z 0).isLt
  have h2 : (z 1).val < 128 := (z 1).isLt
  unfold ofTilesT
  have hk : (⟨(((Rect.unit (s := S1x1792x128) ![0, 128 * k.val, 0] S1x128x128.size inb).emb z) 1).val / 128, by
      have h : (((Rect.unit (s := S1x1792x128) ![0, 128 * k.val, 0] S1x128x128.size inb).emb z) 1).val < 1792 := Fin.isLt _
      omega⟩ : Fin 14) = k := by
    apply Fin.ext
    show (128 * k.val + 1 * (z 1).val) / 128 = k.val
    omega
  rw [hk]
  congr 1
  funext a
  apply Fin.ext
  match a with
  | ⟨0, _⟩ => show (z 0).val = 0 + 1 * (z 0).val; omega
  | ⟨1, _⟩ => show (z 1).val = (128 * k.val + 1 * (z 1).val) % 128; omega
  | ⟨2, _⟩ => show (z 2).val = 0 + 1 * (z 2).val; omega

/-- A piece that is column block `k` of a row block. -/
theorem ofTiles_piece {e : EltTy} (f : Fin 14 → Vec F S1x128x128 e) (p : View.Piece (Elt F) S1x128x1792 e) (k : Fin 14) (o : ℕ) (ho : o = 128 * k.val)
    (inb : ∀ a, (![0, 0, o] : Fin 3 → ℕ) a + S1x128x128.size a ≤ S1x128x1792.size a)
    (h : p = ⟨Rect.unit (s := S1x128x1792) ![0, 0, o] S1x128x128.size inb, f k⟩) (z : p.1.shape.Idx) : p.2 z = ofTiles f (p.1.emb z) := by
  subst h
  exact ofTiles_emb f k o ho inb z

/-- A piece that is row block `k` of a block of the transposed codes. -/
theorem ofTilesT_piece {e : EltTy} (f : Fin 14 → Vec F S1x128x128 e) (p : View.Piece (Elt F) S1x1792x128 e) (k : Fin 14) (o : ℕ) (ho : o = 128 * k.val)
    (inb : ∀ a, (![0, o, 0] : Fin 3 → ℕ) a + S1x128x128.size a ≤ S1x1792x128.size a)
    (h : p = ⟨Rect.unit (s := S1x1792x128) ![0, o, 0] S1x128x128.size inb, f k⟩) (z : p.1.shape.Idx) : p.2 z = ofTilesT f (p.1.emb z) := by
  subst h
  exact ofTilesT_emb f k o ho inb z

section Outputs

variable (lr : Elt F .f32) (st : Elt F .i32) (x2 x3 x4 : Vec F S1x128x1792 .bf16) (x5 x6 : Vec F S1x128x1792 .f32)

/-- New weights: what a grid point leaves in window 7. -/
def out7 : Vec F S1x128x1792 .bf16 := ofTiles fun k => tNew lr st (tileOf x2 k) (tileOf x3 k) (tileOf x4 k) (tileOf x5 k) (tileOf x6 k)

/-- What rounding left of the new weights: what a grid point leaves in window 8. -/
def out8 : Vec F S1x128x1792 .bf16 := ofTiles fun k => tComp lr st (tileOf x2 k) (tileOf x3 k) (tileOf x4 k) (tileOf x5 k) (tileOf x6 k)

/-- First moment: what a grid point leaves in window 9. -/
def out9 : Vec F S1x128x1792 .f32 := ofTiles fun k => tM (tileOf x4 k) (tileOf x5 k)

/-- Second moment: what a grid point leaves in window 10. -/
def out10 : Vec F S1x128x1792 .f32 := ofTiles fun k => tV (tileOf x4 k) (tileOf x6 k)

/-- Codes: what a grid point leaves in window 11. -/
def out11 : Vec F S1x128x1792 .fp8e4m3 := ofTiles fun k => tCodes lr st (tileOf x2 k) (tileOf x3 k) (tileOf x4 k) (tileOf x5 k) (tileOf x6 k)

/-- Transposed codes: what a grid point leaves in window 13. -/
def out13 : Vec F S1x1792x128 .fp8e4m3 := ofTilesT fun k => tCodesT lr st (tileOf x2 k) (tileOf x3 k) (tileOf x4 k) (tileOf x5 k) (tileOf x6 k)

end Outputs

/-- The learning rate that a grid point reads. -/
def lrAt (i : grid0.Coords) (x0 : Vec F S5 .f32) : Elt F .f32 :=
  View.ld x0 (Rect.unit (s := S5) (k0_off1 i) S1.size (k0_off1_inb i)) (Shape.Idx.first (s := S1) (by decide))

/-- The step number that a grid point reads. -/
def stAt (i : grid0.Coords) (x1 : Vec F S5 .i32) : Elt F .i32 :=
  View.ld x1 (Rect.unit (s := S5) (k0_off1 i) S1.size (k0_off1_inb i)) (Shape.Idx.first (s := S1) (by decide))

section Pieces

variable (c : Dev nD) (i : grid0.Coords) (arg2 : Memref sig .tc .smem S5 .f32) (harg2 : arg2.IsWhole) (arg3 : Memref sig .tc .smem S5 .i32) (harg3 : arg3.IsWhole) (arg4 : Memref sig .tc .vmem S1x128x1792 .bf16) (harg4 : arg4.IsWhole) (arg5 : Memref sig .tc .vmem S1x128x1792 .bf16) (harg5 : arg5.IsWhole) (arg6 : Memref sig .tc .vmem S1x128x1792 .bf16) (harg6 : arg6.IsWhole) (arg7 : Memref sig .tc .vmem S1x128x1792 .f32) (harg7 : arg7.IsWhole) (arg8 : Memref sig .tc .vmem S1x128x1792 .f32) (harg8 : arg8.IsWhole) (arg9 : Memref sig .tc .vmem S1x128x1792 .bf16) (harg9 : arg9.IsWhole) (arg10 : Memref sig .tc .vmem S1x128x1792 .bf16) (harg10 : arg10.IsWhole) (arg11 : Memref sig .tc .vmem S1x128x1792 .f32) (harg11 : arg11.IsWhole) (arg12 : Memref sig .tc .vmem S1x128x1792 .f32) (harg12 : arg12.IsWhole) (arg13 : Memref sig .tc .vmem S1x128x1792 .fp8e4m3) (harg13 : arg13.IsWhole) (arg14 : Memref sig .tc .vmem S1x4x14 .f32) (harg14 : arg14.IsWhole) (arg15 : Memref sig .tc .vmem S1x1792x128 .fp8e4m3) (harg15 : arg15.IsWhole)
    (x0 : Vec F S5 .f32) (x1 : Vec F S5 .i32) (x2 : Vec F S1x128x1792 .bf16) (x3 : Vec F S1x128x1792 .bf16) (x4 : Vec F S1x128x1792 .bf16) (x5 : Vec F S1x128x1792 .f32) (x6 : Vec F S1x128x1792 .f32) (y : Vec F S1x4x14 .f32)

/-- Window 7's pieces cover it, -/
theorem cover7 : ∀ z, ∃ p ∈ (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).1, z ∈ p.1.set :=
  View.cover_of_tiledL _ S1x128x128.size (by sl_kernel_rfl)

/-- and each is its part of `out7`. -/
theorem pieces7 : View.PiecesOf (out7 (lrAt i x0) (stAt i x1) x2 x3 x4 x5 x6) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).1 := by
  have h : View.PiecesOf (out7 (lrAt i (arg2.view.read (Elt F) (harg2.unread x0))) (stAt i (arg3.view.read (Elt F) (harg3.unread x1))) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).1 :=
    by unfold out7; exact ⟨ofTiles_piece _ _ 13 1664 rfl _ rfl, ofTiles_piece _ _ 12 1536 rfl _ rfl, ofTiles_piece _ _ 11 1408 rfl _ rfl, ofTiles_piece _ _ 10 1280 rfl _ rfl, ofTiles_piece _ _ 9 1152 rfl _ rfl, ofTiles_piece _ _ 8 1024 rfl _ rfl, ofTiles_piece _ _ 7 896 rfl _ rfl, ofTiles_piece _ _ 6 768 rfl _ rfl, ofTiles_piece _ _ 5 640 rfl _ rfl, ofTiles_piece _ _ 4 512 rfl _ rfl, ofTiles_piece _ _ 3 384 rfl _ rfl, ofTiles_piece _ _ 2 256 rfl _ rfl, ofTiles_piece _ _ 1 128 rfl _ rfl, ofTiles_piece _ _ 0 0 rfl _ rfl, trivial⟩
  simpa only [harg2.read_unread, harg3.read_unread, harg4.read_unread, harg5.read_unread, harg6.read_unread, harg7.read_unread, harg8.read_unread] using h

/-- Window 8's pieces cover it, -/
theorem cover8 : ∀ z, ∃ p ∈ (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.1, z ∈ p.1.set :=
  View.cover_of_tiledL _ S1x128x128.size (by sl_kernel_rfl)

/-- and each is its part of `out8`. -/
theorem pieces8 : View.PiecesOf (out8 (lrAt i x0) (stAt i x1) x2 x3 x4 x5 x6) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.1 := by
  have h : View.PiecesOf (out8 (lrAt i (arg2.view.read (Elt F) (harg2.unread x0))) (stAt i (arg3.view.read (Elt F) (harg3.unread x1))) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.1 :=
    by unfold out8; exact ⟨ofTiles_piece _ _ 13 1664 rfl _ rfl, ofTiles_piece _ _ 12 1536 rfl _ rfl, ofTiles_piece _ _ 11 1408 rfl _ rfl, ofTiles_piece _ _ 10 1280 rfl _ rfl, ofTiles_piece _ _ 9 1152 rfl _ rfl, ofTiles_piece _ _ 8 1024 rfl _ rfl, ofTiles_piece _ _ 7 896 rfl _ rfl, ofTiles_piece _ _ 6 768 rfl _ rfl, ofTiles_piece _ _ 5 640 rfl _ rfl, ofTiles_piece _ _ 4 512 rfl _ rfl, ofTiles_piece _ _ 3 384 rfl _ rfl, ofTiles_piece _ _ 2 256 rfl _ rfl, ofTiles_piece _ _ 1 128 rfl _ rfl, ofTiles_piece _ _ 0 0 rfl _ rfl, trivial⟩
  simpa only [harg2.read_unread, harg3.read_unread, harg4.read_unread, harg5.read_unread, harg6.read_unread, harg7.read_unread, harg8.read_unread] using h

/-- Window 9's pieces cover it, -/
theorem cover9 : ∀ z, ∃ p ∈ (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.1, z ∈ p.1.set :=
  View.cover_of_tiledL _ S1x128x128.size (by sl_kernel_rfl)

/-- and each is its part of `out9`. -/
theorem pieces9 : View.PiecesOf (out9 x4 x5) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.1 := by
  have h : View.PiecesOf (out9 (arg6.view.read (Elt F) (harg6.unread x4)) (arg7.view.read (Elt F) (harg7.unread x5))) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.1 :=
    by unfold out9; exact ⟨ofTiles_piece _ _ 13 1664 rfl _ rfl, ofTiles_piece _ _ 12 1536 rfl _ rfl, ofTiles_piece _ _ 11 1408 rfl _ rfl, ofTiles_piece _ _ 10 1280 rfl _ rfl, ofTiles_piece _ _ 9 1152 rfl _ rfl, ofTiles_piece _ _ 8 1024 rfl _ rfl, ofTiles_piece _ _ 7 896 rfl _ rfl, ofTiles_piece _ _ 6 768 rfl _ rfl, ofTiles_piece _ _ 5 640 rfl _ rfl, ofTiles_piece _ _ 4 512 rfl _ rfl, ofTiles_piece _ _ 3 384 rfl _ rfl, ofTiles_piece _ _ 2 256 rfl _ rfl, ofTiles_piece _ _ 1 128 rfl _ rfl, ofTiles_piece _ _ 0 0 rfl _ rfl, trivial⟩
  simpa only [harg2.read_unread, harg3.read_unread, harg4.read_unread, harg5.read_unread, harg6.read_unread, harg7.read_unread, harg8.read_unread] using h

/-- Window 10's pieces cover it, -/
theorem cover10 : ∀ z, ∃ p ∈ (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.1, z ∈ p.1.set :=
  View.cover_of_tiledL _ S1x128x128.size (by sl_kernel_rfl)

/-- and each is its part of `out10`. -/
theorem pieces10 : View.PiecesOf (out10 x4 x6) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.1 := by
  have h : View.PiecesOf (out10 (arg6.view.read (Elt F) (harg6.unread x4)) (arg8.view.read (Elt F) (harg8.unread x6))) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.1 :=
    by unfold out10; exact ⟨ofTiles_piece _ _ 13 1664 rfl _ rfl, ofTiles_piece _ _ 12 1536 rfl _ rfl, ofTiles_piece _ _ 11 1408 rfl _ rfl, ofTiles_piece _ _ 10 1280 rfl _ rfl, ofTiles_piece _ _ 9 1152 rfl _ rfl, ofTiles_piece _ _ 8 1024 rfl _ rfl, ofTiles_piece _ _ 7 896 rfl _ rfl, ofTiles_piece _ _ 6 768 rfl _ rfl, ofTiles_piece _ _ 5 640 rfl _ rfl, ofTiles_piece _ _ 4 512 rfl _ rfl, ofTiles_piece _ _ 3 384 rfl _ rfl, ofTiles_piece _ _ 2 256 rfl _ rfl, ofTiles_piece _ _ 1 128 rfl _ rfl, ofTiles_piece _ _ 0 0 rfl _ rfl, trivial⟩
  simpa only [harg2.read_unread, harg3.read_unread, harg4.read_unread, harg5.read_unread, harg6.read_unread, harg7.read_unread, harg8.read_unread] using h

/-- Window 11's pieces cover it, -/
theorem cover11 : ∀ z, ∃ p ∈ (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.1, z ∈ p.1.set :=
  View.cover_of_tiledL _ S1x128x128.size (by sl_kernel_rfl)

/-- and each is its part of `out11`. -/
theorem pieces11 : View.PiecesOf (out11 (lrAt i x0) (stAt i x1) x2 x3 x4 x5 x6) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.1 := by
  have h : View.PiecesOf (out11 (lrAt i (arg2.view.read (Elt F) (harg2.unread x0))) (stAt i (arg3.view.read (Elt F) (harg3.unread x1))) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.1 :=
    by unfold out11; exact ⟨ofTiles_piece _ _ 13 1664 rfl _ rfl, ofTiles_piece _ _ 12 1536 rfl _ rfl, ofTiles_piece _ _ 11 1408 rfl _ rfl, ofTiles_piece _ _ 10 1280 rfl _ rfl, ofTiles_piece _ _ 9 1152 rfl _ rfl, ofTiles_piece _ _ 8 1024 rfl _ rfl, ofTiles_piece _ _ 7 896 rfl _ rfl, ofTiles_piece _ _ 6 768 rfl _ rfl, ofTiles_piece _ _ 5 640 rfl _ rfl, ofTiles_piece _ _ 4 512 rfl _ rfl, ofTiles_piece _ _ 3 384 rfl _ rfl, ofTiles_piece _ _ 2 256 rfl _ rfl, ofTiles_piece _ _ 1 128 rfl _ rfl, ofTiles_piece _ _ 0 0 rfl _ rfl, trivial⟩
  simpa only [harg2.read_unread, harg3.read_unread, harg4.read_unread, harg5.read_unread, harg6.read_unread, harg7.read_unread, harg8.read_unread] using h

/-- Window 13's pieces cover it, -/
theorem cover13 : ∀ z, ∃ p ∈ (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.2.2.1, z ∈ p.1.set :=
  View.cover_of_tiledL _ S1x128x128.size (by sl_kernel_rfl)

/-- and each is its part of `out13`. -/
theorem pieces13 : View.PiecesOf (out13 (lrAt i x0) (stAt i x1) x2 x3 x4 x5 x6) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.2.2.1 := by
  have h : View.PiecesOf (out13 (lrAt i (arg2.view.read (Elt F) (harg2.unread x0))) (stAt i (arg3.view.read (Elt F) (harg3.unread x1))) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))) (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.2.2.1 :=
    by unfold out13; exact ⟨ofTilesT_piece _ _ 13 1664 rfl _ rfl, ofTilesT_piece _ _ 12 1536 rfl _ rfl, ofTilesT_piece _ _ 11 1408 rfl _ rfl, ofTilesT_piece _ _ 10 1280 rfl _ rfl, ofTilesT_piece _ _ 9 1152 rfl _ rfl, ofTilesT_piece _ _ 8 1024 rfl _ rfl, ofTilesT_piece _ _ 7 896 rfl _ rfl, ofTilesT_piece _ _ 6 768 rfl _ rfl, ofTilesT_piece _ _ 5 640 rfl _ rfl, ofTilesT_piece _ _ 4 512 rfl _ rfl, ofTilesT_piece _ _ 3 384 rfl _ rfl, ofTilesT_piece _ _ 2 256 rfl _ rfl, ofTilesT_piece _ _ 1 128 rfl _ rfl, ofTilesT_piece _ _ 0 0 rfl _ rfl, trivial⟩
  simpa only [harg2.read_unread, harg3.read_unread, harg4.read_unread, harg5.read_unread, harg6.read_unread, harg7.read_unread, harg8.read_unread] using h

/-- Window 12's only piece is the row of scales. -/
theorem pieces12 : (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.2.1
    = [⟨Rect.unit (s := S1x4x14) (k0_off2 i) S1x1x14.size (k0_off2_inb i), sRow (lrAt i x0) (stAt i x1) x2 x3 x4 x5 x6⟩] := by
  have h : (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y).2.2.2.2.2.1
      = [⟨Rect.unit (s := S1x4x14) (k0_off2 i) S1x1x14.size (k0_off2_inb i), sRow (lrAt i (arg2.view.read (Elt F) (harg2.unread x0))) (stAt i (arg3.view.read (Elt F) (harg3.unread x1))) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))⟩] := rfl
  simpa only [harg2.read_unread, harg3.read_unread, harg4.read_unread, harg5.read_unread, harg6.read_unread, harg7.read_unread, harg8.read_unread] using h

end Pieces

end Cert.KernelIdeal.Hand

end
-- ==== Proof.KernelFrame.lean ====
/- The kernel's run on the whole grid: what every result array holds at the end, named block by block. The block of scales is
   filled one row per grid point, so of what the body leaves there only the rows stored so far are known. -/
module

public import proofs.«01_k».proof.Proof.KernelTiles
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of row block `j` in the group of four that `t` belongs to. -/
def rowPoint (t : Fin cfg0.N) (j : Fin 4) : Fin cfg0.N :=
  ⟨4 * (t.val / 4) + j.val, by have h : t.val < 20 := t.isLt; show 4 * (t.val / 4) + j.val < 20; omega⟩

/-- The row of scales that grid point `t` stores. -/
def scaleRow (c : Dev nD) (t : Fin cfg0.N) : Vec F S1x1x14 .f32 := sRow (lrAt (grid0.coords t) (iblk m c 0 t)) (stAt (grid0.coords t) (iblk m c 1 t)) (iblk m c 2 t) (iblk m c 3 t) (iblk m c 4 t) (iblk m c 5 t) (iblk m c 6 t)

/-- The block of scales, once its four rows are stored. -/
def scaleBlock (c : Dev nD) (t : Fin cfg0.N) : Vec F S1x4x14 .f32 := fun y =>
  scaleRow m c (rowPoint t (y 1)) (ix3 (y 0) (0 : Fin 1) (y 2))

/-- What is known of the buffer of scales after grid point `t`: the rows up to the point's own are stored. -/
def scaleRows (c : Dev nD) (w : Fin cfg0.W) (t : Fin cfg0.N) (X : (cfg0.win w).block.Idx → Elt F (cfg0.win w).elt) : Prop :=
  match w with
  | ⟨12, _⟩ => ∀ y : S1x4x14.Idx, (y 1).val ≤ t.val % 4 → (show Vec F S1x4x14 .f32 from X) y = scaleBlock m c t y
  | _ => True

/-- The window of which only the rows stored so far are known. -/
def partly : Fin 14 → Bool := fun w => w.val == 12

/-- What the loop carries: the arrays as they are found, each input's block, and what the body leaves in each output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (lrAt (grid0.coords t) (iblk m c 0 t)) (stAt (grid0.coords t) (iblk m c 1 t)) (iblk m c 2 t) (iblk m c 3 t) (iblk m c 4 t) (iblk m c 5 t) (iblk m c 6 t)
    | ⟨8, _⟩ => out8 (lrAt (grid0.coords t) (iblk m c 0 t)) (stAt (grid0.coords t) (iblk m c 1 t)) (iblk m c 2 t) (iblk m c 3 t) (iblk m c 4 t) (iblk m c 5 t) (iblk m c 6 t)
    | ⟨9, _⟩ => out9 (iblk m c 4 t) (iblk m c 5 t)
    | ⟨10, _⟩ => out10 (iblk m c 4 t) (iblk m c 6 t)
    | ⟨11, _⟩ => out11 (lrAt (grid0.coords t) (iblk m c 0 t)) (stAt (grid0.coords t) (iblk m c 1 t)) (iblk m c 2 t) (iblk m c 3 t) (iblk m c 4 t) (iblk m c 5 t) (iblk m c 6 t)
    | ⟨12, _⟩ => scaleBlock m c t
    | ⟨13, _⟩ => out13 (lrAt (grid0.coords t) (iblk m c 0 t)) (stAt (grid0.coords t) (iblk m c 1 t)) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 (lrAt (grid0.coords t) (iblk m c 0 t)) (stAt (grid0.coords t) (iblk m c 1 t)) (iblk m c 2 t) (iblk m c 3 t) (iblk m c 4 t) (iblk m c 5 t) (iblk m c 6 t) := by dsimp only [dats]
theorem after_8 (c : Dev nD) (t : Fin cfg0.N) : (dats m 0 c).after 8 t = out8 (lrAt (grid0.coords t) (iblk m c 0 t)) (stAt (grid0.coords t) (iblk m c 1 t)) (iblk m c 2 t) (iblk m c 3 t) (iblk m c 4 t) (iblk m c 5 t) (iblk m c 6 t) := by dsimp only [dats]
theorem after_9 (c : Dev nD) (t : Fin cfg0.N) : (dats m 0 c).after 9 t = out9 (iblk m c 4 t) (iblk m c 5 t) := by dsimp only [dats]
theorem after_10 (c : Dev nD) (t : Fin cfg0.N) : (dats m 0 c).after 10 t = out10 (iblk m c 4 t) (iblk m c 6 t) := by dsimp only [dats]
theorem after_11 (c : Dev nD) (t : Fin cfg0.N) : (dats m 0 c).after 11 t = out11 (lrAt (grid0.coords t) (iblk m c 0 t)) (stAt (grid0.coords t) (iblk m c 1 t)) (iblk m c 2 t) (iblk m c 3 t) (iblk m c 4 t) (iblk m c 5 t) (iblk m c 6 t) := by dsimp only [dats]
theorem after_12 (c : Dev nD) (t : Fin cfg0.N) : (dats m 0 c).after 12 t = scaleBlock m c t := by dsimp only [dats]
theorem after_13 (c : Dev nD) (t : Fin cfg0.N) : (dats m 0 c).after 13 t = out13 (lrAt (grid0.coords t) (iblk m c 0 t)) (stAt (grid0.coords t) (iblk m c 1 t)) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The scales' buffer -/

/-- A grid point's second coordinate. -/
theorem coords_one (t : Fin cfg0.N) : ((grid0.coords t) 1).val = t.val % 4 := by
  revert t; decide +kernel

/-- The scales' buffer is never fetched. -/
theorem fetch_12 (t : Fin cfg0.N) : (cfg0.win 12).fetch t = false := by
  revert t; decide +kernel

/-- The rows that a grid point finds in the scales' buffer are those of the points before it. -/
theorem found_rows (c : Dev nD) (t : Fin cfg0.N) (Y : Vec F S1x4x14 .f32) (h : ((dats m 0 c).toRRel partly (scaleRows m c)).Finds 12 t Y)
    (y : S1x4x14.Idx) (hy : (y 1).val < t.val % 4) : Y y = scaleBlock m c t y := by
  have h20 : t.val < 20 := t.isLt
  have ht : t.val ≠ 0 := by omega
  rw [RDat.finds_of_pos _ (fetch_12 t) ht] at h
  rcases h with h | h
  · rw [flush0_12] at h
    simp only at h
    omega
  · have h' : scaleRows m c 12 ⟨t.val - 1, Nat.lt_of_le_of_lt (Nat.sub_le _ _) t.isLt⟩ Y := (dats m 0 c).toRRel_leaves (fgt := partly) rfl h
    have e := h' y (by simp only; omega)
    refine Eq.trans e ?_
    unfold scaleBlock
    have e' : rowPoint ⟨t.val - 1, Nat.lt_of_le_of_lt (Nat.sub_le _ _) t.isLt⟩ (y 1) = rowPoint t (y 1) := by
      apply Fin.ext
      show 4 * ((t.val - 1) / 4) + (y 1).val = 4 * (t.val / 4) + (y 1).val
      omega
    rw [e']

/-- The rows after the body stored its own. -/
theorem stored_rows (c : Dev nD) (t : Fin cfg0.N) (v : Memref sig .tc .vmem S1x4x14 .f32) (hv : v.IsWhole) (Y : Vec F S1x4x14 .f32)
    (h : ((dats m 0 c).toRRel partly (scaleRows m c)).Finds 12 t Y) :
    scaleRows m c 12 t (v.view.read (Elt F) (v.view.writes (Elt F) (hv.unread Y)
      [⟨Rect.unit (s := S1x4x14) (k0_off2 (grid0.coords t)) S1x1x14.size (k0_off2_inb (grid0.coords t)), scaleRow m c t⟩])) := by
  intro y hy
  have hoff : k0_off2 (grid0.coords t) = ![0, t.val % 4, 0] := by
    rw [k0_off2_eq]; rw [coords_one]
  have h1 : (y 1).val < 4 := (y 1).isLt
  by_cases hj : (y 1).val = t.val % 4
  · have he : y = (Rect.unit (s := S1x4x14) (k0_off2 (grid0.coords t)) S1x1x14.size (k0_off2_inb (grid0.coords t))).emb (ix3 (y 0) (0 : Fin 1) (y 2)) := by
      funext a
      apply Fin.ext
      show (y a).val = k0_off2 (grid0.coords t) a + 1 * (ix3 (y 0) (0 : Fin 1) (y 2) a).val
      rw [hoff]
      match a with
      | ⟨0, _⟩ => show (y 0).val = 0 + 1 * (y 0).val; omega
      | ⟨1, _⟩ => show (y 1).val = t.val % 4 + 1 * 0; omega
      | ⟨2, _⟩ => show (y 2).val = 0 + 1 * (y 2).val; omega
    have hb : scaleBlock m c t y = scaleRow m c t (ix3 (y 0) (0 : Fin 1) (y 2)) := by
      unfold scaleBlock
      have ht : rowPoint t (y 1) = t := by
        apply Fin.ext
        show 4 * (t.val / 4) + (y 1).val = t.val
        omega
      rw [ht]
    rw [hb]
    conv_lhs => rw [he]
    exact View.read_writes_cons_emb _ _ _ _ _ _
  · have hn : y ∉ (Rect.unit (s := S1x4x14) (k0_off2 (grid0.coords t)) S1x1x14.size (k0_off2_inb (grid0.coords t))).set := by
      have hx1 : (y 1).val < k0_off2 (grid0.coords t) 1 ∨ k0_off2 (grid0.coords t) 1 + 1 ≤ (y 1).val := by
        rw [hoff]; show (y 1).val < t.val % 4 ∨ t.val % 4 + 1 ≤ (y 1).val; omega
      exact Rect.not_mem_set_of_axis _ y 1 _ 1 rfl rfl rfl hx1
    have hn' : y ∉ Finset.univ.map (Rect.unit (s := S1x4x14) (k0_off2 (grid0.coords t)) S1x1x14.size (k0_off2_inb (grid0.coords t))).emb := by rwa [Rect.map_emb_univ]
    show v.view.read (Elt F) (v.view.writes (Elt F) (hv.unread Y) _) y = _
    rw [View.writes_cons, View.read_slice_write_of_not_mem _ _ _ _ hn', View.writes_nil, hv.read_unread]
    exact found_rows m c t Y h y (by omega)

/-! ## The body at a grid point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ Y, ⌜((dats m 0 c).toRRel partly (scaleRows m c)).Finds 12 t Y⌝ ∗ owns (c : Thread nD τ) (ms0_12 t) fullShare Y)
    ∗ (∃ d, owns (c : Thread nD τ) (ms0_13 t) fullShare ((dats m 0 c).before 13 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ X, ⌜scaleRows m c 12 t X⌝ ∗ owns (c : Thread nD τ) (ms0_12 t) fullShare X)
    ∗ owns (c : Thread nD τ) (ms0_13 t) fullShare ((dats m 0 c).after 13 t))

/-- Stores that are all parts of `G` and together cover the buffer leave `G`. -/
theorem read_of_pieces {s : Shape} {e : EltTy} {sp : Space} (v : View sig .tc sp s e) (f : v.ty.Contents (Elt F)) (G : s.Idx → Elt F e)
    (L : List (View.Piece (Elt F) s e)) (hc : ∀ z, ∃ p ∈ L, z ∈ p.1.set) (hp : View.PiecesOf G L) : v.read (Elt F) (v.writes (Elt F) f L) = G := by
  rw [View.read_writes_eq_canon _ _ _ hc]
  funext z
  exact View.canon_apply_of_pieces G L hp.mem z (hc z)

set_option maxHeartbeats 1200000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hY, H12⟩, ⟨%d13, H13⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexact H12
  isplitl [H13]; · iexists _; iexact H13
  iintro ⟨H0, H1, H2, H3, H4, H5, H6, ⟨%e7, H7⟩, ⟨%e8, H8⟩, ⟨%e9, H9⟩, ⟨%e10, H10⟩, ⟨%e11, H11⟩, H12, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read_of_pieces _ _ _ _ (cover7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y) (pieces7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y)
  isplitl [H8]
  · unfold owns; iexists _; isplitr
    swap; · iexact H8
    ipureintro; exact read_of_pieces _ _ _ _ (cover8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y) (pieces8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y)
  isplitl [H9]
  · unfold owns; iexists _; isplitr
    swap; · iexact H9
    ipureintro; exact read_of_pieces _ _ _ _ (cover9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y) (pieces9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y)
  isplitl [H10]
  · unfold owns; iexists _; isplitr
    swap; · iexact H10
    ipureintro; exact read_of_pieces _ _ _ _ (cover10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y) (pieces10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y)
  isplitl [H11]
  · unfold owns; iexists _; isplitr
    swap; · iexact H11
    ipureintro; exact read_of_pieces _ _ _ _ (cover11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y) (pieces11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y)
  isplitl [H12]
  · iexists _; isplitr
    swap
    · unfold owns; iexists _; isplitr
      swap; · iexact H12
      ipureintro; rfl
    ipureintro
    have h := stored_rows m c t (ms0_12 t) (hs0_12 t) Y hY
    unfold scaleRow at h
    rw [← pieces12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y] at h
    exact h
  unfold owns; iexists _; isplitr
  swap; · iexact H13
  ipureintro; exact read_of_pieces _ _ _ _ (cover13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y) (pieces13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) Y)

/-- The body table's row at a grid point is the body. -/
theorem defs₀_row (t : Fin cfg0.N) :
    defs₀ (F := F) .tc cfg0.body (cfg0.bodyArgs t (cfg0.slots t)) = bodyAt0 t := by
  unfold defs₀; rw [Defs.onTc_tc]

/-- The library's body obligation, at every grid point. -/
theorem body_obligation (c : Dev nD) : BodyObligationRel (dats (F := F) m 0 c) (defs₀ (F := F)) Variants.none () Set.univ partly (scaleRows m c) := fun t => by
  rw [bigSep_W0, bigSep_W0, defs₀_row]
  exact triple_restated (sound_body m c t) rfl .rfl fun _ => .rfl

/-! ## The run -/

/-- At the last row of a group all four rows are known. -/
theorem scaleRows_full (c : Dev nD) (t : Fin cfg0.N) (ht : t.val % 4 = 3) (X : Vec F S1x4x14 .f32) (h : scaleRows m c 12 t X) :
    X = scaleBlock m c t := by
  funext y
  have h1 : (y 1).val < 4 := (y 1).isLt
  exact h y (by omega)

/-- An array written back only where the contents are known holds what those write-backs leave. -/
theorem arrAt_of_leaves {cfg : Cfg sig Λ₀} {c : Dev nD} (dat : Dat τ (Elt F) Unit ℕ (UR sig nD τ) ℕ cfg c) (rd : RDat τ (Elt F) Unit ℕ (UR sig nD τ) ℕ cfg c)
    (w : Fin cfg.W) (hA : rd.A w = dat.A w) (h : ∀ t, (cfg.win w).flush t = true → ∀ X, rd.Leaves w t X → X = dat.after w t) :
    ∀ n G, rd.ArrAt w n G → G = dat.arrAt w n
  | 0, G, hG => by
    unfold RDat.ArrAt at hG
    unfold Dat.arrAt
    exact hG.trans hA
  | n + 1, G, hG => by
    unfold RDat.ArrAt at hG
    unfold Dat.arrAt
    simp only at hG ⊢
    by_cases hn : n < cfg.N
    · rw [dif_pos hn] at hG ⊢
      by_cases hf : (cfg.win w).flush ⟨n, hn⟩ = true
      · rw [if_pos hf] at hG ⊢
        obtain ⟨G₀, X, h₀, hX, e⟩ := hG
        rw [e, arrAt_of_leaves dat rd w hA h n G₀ h₀, h _ hf X hX]
      · rw [if_neg hf] at hG ⊢
        exact arrAt_of_leaves dat rd w hA h n G hG
    · rw [dif_neg hn] at hG ⊢
      exact arrAt_of_leaves dat rd w hA h n G hG

/-- So the array of scales may only hold what complete blocks leave. -/
theorem arrAt_12 (c : Dev nD) (n : ℕ) (G : Buf (Elt F) ((cfg0.win 12).arr.view.loc (c.tc : Thread nD τ)))
    (h : ((dats m 0 c).toRRel partly (scaleRows m c)).ArrAt 12 n G) : G = (dats m 0 c).arrAt 12 n :=
  arrAt_of_leaves (dats m 0 c) _ 12 rfl (fun t hf X hX => by
    rw [after_12]
    exact scaleRows_full m c t ((flush0_12 t).mp hf) X ((dats m 0 c).toRRel_leaves (fgt := partly) rfl hX)) n G h

/-- What the relational run leaves is what the named contents say. -/
theorem post_named (r : PUnit × MemSt nD τ sig (Elt F))
    (h : RDat.FramePost (cfgs 0) (fun c => (dats m 0 c).toRRel partly (scaleRows m c)) (V m) r) : Pipeline.FramePost cfgs (dats m) 0 (V m) r := fun c =>
  ⟨fun w => by
    by_cases hw : partly w = true
    · have e : w = 12 := by
        revert hw; revert w; decide
      subst e
      exact arrAt_12 m c _ _ ((h c).1 12)
    · have hw' : partly w = false := by simpa using hw
      exact ((dats m 0 c).toR_arrAt_iff w _ _).mp (((dats m 0 c).toR.override_arrAt (by simp only [hw']) _ _).mp ((h c).1 w)), (h c).2⟩

set_option backward.isDefEq.respectTransparency.types false in
/-- The run: every array ends at the contents named by `dats`, and every counter at zero. -/
theorem run_main_quiescent : θ_run defs (onTc (τ := τ) (main (F := F))) (s₀ m ρ) (fun r => (Pipeline.FramePost cfgs (dats m) 0 (V m)) r ∧ r.2.sem = fun _ => 0) :=
  Pipeline.RDat.θ_run_frame (Q' := _) cfgs (0 : Fin 1) launch0 defs₀ Variants.none (fun c => (dats m 0 c).toRRel partly (scaleRows m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (hQ' := fun r h => ⟨post_named m r h.1, h.2⟩)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelAsPrinted.lean ====
/- The kernel printed for floats of bits and the kernel printed for extended reals are one program, so the frame holds of both. -/
module

public import proofs.«01_k».proof.Defs
public import proofs.«01_k».proof.Proof.Gen.Kernel
public import proofs.«01_k».proof.Proof.KernelFrame

@[expose] public section

set_option maxRecDepth 100000

namespace Cert.Kernel.Hand

open Idealize.ShloMosaic Idealize.ShloMosaic.TcCoe Idealize.SL.Sem

variable {F : FTy → Type} [FloatOps F]

theorem body_eq : @Cert.Kernel.cc0_adamw_fp8 F _ Cert.Kernel.Gen.facts = @Cert.KernelIdeal.cc0_adamw_fp8 F _ Cert.KernelIdeal.Gen.facts := rfl

theorem defs₀_eq : @Cert.Kernel.defs₀ F _ Cert.Kernel.Gen.facts = @Cert.KernelIdeal.defs₀ F _ Cert.KernelIdeal.Gen.facts := by
  refine congrArg (Defs.onTc (nD := Cert.KernelIdeal.nD) (τ := Cert.KernelIdeal.τ) (sig := Cert.KernelIdeal.sig) (Val := Elt F) (Λ := Cert.KernelIdeal.Λ₀)) (funext fun l => funext fun x => ?_)
  match l, x with
  | 0, (t, s) => rfl
  | ⟨_ + 1, h⟩, _ => exact absurd h (Nat.not_lt.2 (Nat.le_add_left _ _))

theorem defs_eq : @Cert.Kernel.defs F _ Cert.Kernel.Gen.facts = @Cert.KernelIdeal.defs F _ Cert.KernelIdeal.Gen.facts :=
  congrArg (fun d : Defs Cert.KernelIdeal.nD Cert.KernelIdeal.τ Cert.KernelIdeal.sig (Elt F) Cert.KernelIdeal.Λ₀ => Pipeline.defs Cert.KernelIdeal.pcfgs d) defs₀_eq

theorem main_eq : @Cert.Kernel.main F _ = @Cert.KernelIdeal.main F _ := rfl

theorem frame : Cert.quiescent_Kernel := fun m g _ =>
  Eq.mpr (congrArg (fun D : Defs Cert.KernelIdeal.nD Cert.KernelIdeal.τ Cert.KernelIdeal.sig (Elt Bits) (Pipeline.Sig Cert.KernelIdeal.Λ₀ (Fin 1) fun p => (Cert.KernelIdeal.pcfgs (F := Bits) p).Adm) =>
      θ_run D (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
        ∧ r.2.sem = fun _ => 0)) (defs_eq (F := Bits))) (Cert.KernelIdeal.Hand.frame (F := Bits) m g)

end Cert.Kernel.Hand

end
-- ==== Proof.Scalars.lean ====
/- The arithmetic of one element and of one block's scale on extended reals, as the kernel does it and as the reference does it, and why
   the two agree. -/
module

public import Idealize.ShloMosaic.Lib.ValueIdx
public import Idealize.ShloMosaic.Lib.IdealHost
public import Idealize.ShloMosaic.PureOps.Ideal

@[expose] public section

set_option maxRecDepth 16384

noncomputable section

namespace Cert.Adam

open Idealize.ShloMosaic Idealize.ShloMosaic.ValueIdx

/-- The number a 32-bit pattern stands for. -/
abbrev K (b : BitVec 32) : EReal := Ideal.ofBits .f32 b

/-! ## Numbers named by patterns -/

/-- A pattern whose sign is plus and whose exponent field is neither all zeros nor all ones. -/
theorem ofBits_normal (b : BitVec 32) (hs : (b.extractLsb' 31 1 == 1#1) = false) (h0 : (b.extractLsb' 23 8).toNat ≠ 0) (h1 : (b.extractLsb' 23 8).toNat ≠ 255) :
    K b = (((2 ^ 23 + (b.extractLsb' 0 23).toNat : ℕ) * (2 : ℝ) ^ (((b.extractLsb' 23 8).toNat : ℤ) - 150) : ℝ) : EReal) := by
  show Ideal.ieee 8 23 b = _
  unfold Ideal.ieee
  simp only [hs]
  rw [if_neg (show ¬(b.extractLsb' 23 8).toNat = 2 ^ 8 - 1 from h1), if_neg h0]
  generalize (b.extractLsb' 23 8).toNat = n
  generalize (b.extractLsb' 0 23).toNat = f
  rw [show ((n : ℤ) - (2 ^ (8 - 1) - 1) - ((23 : ℕ) : ℤ)) = (n : ℤ) - 150 by norm_num; ring]
  norm_num

theorem field_bits : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

/-- The pattern with exponent field `n` and nothing else is a power of two. -/
theorem ofBits_field (n : ℕ) (h0 : 1 ≤ n) (h1 : n ≤ 254) : K (BitVec.ofNat 32 n <<< 23) = (((2 : ℝ) ^ ((n : ℤ) - 127) : ℝ) : EReal) := by
  obtain ⟨hs, he, hf⟩ := field_bits ⟨n, by omega⟩
  simp only at hs he hf
  rw [ofBits_normal _ hs (by omega) (by omega), he, hf]
  have h : ((2 ^ 23 + 0 : ℕ) : ℝ) * (2 : ℝ) ^ ((n : ℤ) - 150) = (2 : ℝ) ^ ((n : ℤ) - 127) := by
    rw [show ((2 ^ 23 + 0 : ℕ) : ℝ) = (2 : ℝ) ^ (23 : ℤ) by norm_num, ← zpow_add₀ (by norm_num), show (23 : ℤ) + ((n : ℤ) - 150) = (n : ℤ) - 127 by ring]
  rw [h]

/-- With all ones in the exponent field it is infinity. -/
theorem ofBits_inf : K (BitVec.ofNat 32 255 <<< 23) = ⊤ := by
  show Ideal.ieee 8 23 (BitVec.ofNat 32 255 <<< 23) = ⊤
  simp [Ideal.ieee]

theorem K_tiny : K 0x00800000#32 = (((2 : ℝ) ^ (-126 : ℤ) : ℝ) : EReal) := ofBits_field 1 (by norm_num) (by norm_num)
theorem K_huge : K 0x7E800000#32 = (((2 : ℝ) ^ (126 : ℤ) : ℝ) : EReal) := ofBits_field 253 (by norm_num) (by norm_num)
theorem K_two : K 0x40000000#32 = ((2 : ℝ) : EReal) := (ofBits_field 128 (by norm_num) (by norm_num)).trans (by norm_num)
theorem K_one : K 0x3F800000#32 = 1 := by
  rw [show (0x3F800000#32) = BitVec.ofNat 32 127 <<< 23 by decide, ofBits_field 127 (by norm_num) (by norm_num)]
  norm_num
theorem K_zero : K 0x00000000#32 = 0 := by simp [Ideal.ofBits, Ideal.ieee]

/-- 0.95, as rounded. -/
theorem K_beta2 : ∃ r : ℝ, K 0x3F733333#32 = (r : EReal) ∧ 0 < r ∧ r < 1 := by
  refine ⟨_, ofBits_normal _ (by decide) (by decide) (by decide), by positivity, ?_⟩
  rw [show ((0x3F733333#32).extractLsb' 23 8).toNat = 126 by decide, show ((0x3F733333#32).extractLsb' 0 23).toNat = 7549747 by decide]
  norm_num

/-- 1/448, as rounded. -/
theorem K_inv448 : ∃ r : ℝ, K 0x3B124925#32 = (r : EReal) ∧ 0 < r := by
  exact ⟨_, ofBits_normal _ (by decide) (by decide) (by decide), by positivity⟩

theorem K_448 : Ideal.ofBits .bf16 0x43E0#16 = K 0x43E00000#32 := by
  rw [ofBits_normal _ (by decide) (by decide) (by decide), show ((0x43E00000#32).extractLsb' 23 8).toNat = 135 by decide,
    show ((0x43E00000#32).extractLsb' 0 23).toNat = 6291456 by decide]
  show Ideal.ieee 8 7 (0x43E0#16) = _
  simp [Ideal.ieee]
  rw [← EReal.coe_mul, ← EReal.coe_mul]
  norm_num
theorem K_neg448 : Ideal.ofBits .bf16 0xC3E0#16 = K 0xC3E00000#32 := by
  show Ideal.ieee 8 7 (0xC3E0#16) = Ideal.ieee 8 23 (0xC3E00000#32)
  simp [Ideal.ieee]
  rw [← EReal.coe_mul, ← EReal.coe_mul]
  norm_num

/-! ## One element of the update -/

/-- The new first moment. -/
def mNew (g m : EReal) : EReal := K 0x3F666666#32 * m + K 0x3DCCCCCD#32 * g
/-- The new second moment. -/
def vNew (g v : EReal) : EReal := K 0x3F733333#32 * v + K 0x3D4CCCCD#32 * g * g
/-- The step size, corrected for the first moment's bias. -/
def stepOf (lr s : EReal) : EReal := Ideal.div lr (K 0x3F800000#32 - Ideal.pow (K 0x3F666666#32) s)
/-- The square root of the second moment's bias correction. -/
def rootBias (s : EReal) : EReal := Ideal.sqrt (K 0x3F800000#32 - Ideal.pow (K 0x3F733333#32) s)
/-- What the weight decay leaves of a weight. -/
def decayOf (lr : EReal) : EReal := K 0x3F800000#32 - lr * K 0x3DCCCCCD#32
/-- The kernel's square root: times the reciprocal root of the clamped value. -/
def kernelRoot (v : EReal) : EReal := v * Ideal.rsqrt (min (max v (K 0x00800000#32)) (K 0x7F7FFFFF#32))
/-- The exact new weight, as the reference computes it. -/
def exactOf (lr s w wc g m v : EReal) : EReal :=
  (w + wc) * decayOf lr - stepOf lr s * Ideal.div (mNew g m) (Ideal.div (Ideal.sqrt (vNew g v)) (rootBias s) + K 0x322BCC77#32)
/-- The exact new weight, as the kernel computes it. -/
def kernelExact (lr s w wc g m v : EReal) : EReal :=
  (w + wc) * decayOf lr - stepOf lr s * Ideal.div (mNew g m) (kernelRoot (vNew g v) * Ideal.div (K 0x3F800000#32) (rootBias s) + K 0x322BCC77#32)

/-- The kernel's square root is the square root at zero and at normal numbers. -/
theorem kernelRoot_eq (v : EReal) (h : v = 0 ∨ K 0x00800000#32 ≤ v ∧ v ≤ K 0x7F7FFFFF#32) : kernelRoot v = Ideal.sqrt v := by
  unfold kernelRoot
  rcases h with rfl | ⟨h1, h2⟩
  · rw [zero_mul]
    show (0 : EReal) = if (0 : ℝ) < 0 then (⊥ : EReal) else ((Real.sqrt 0 : ℝ) : EReal)
    simp
  · rw [max_eq_left h1, min_eq_left h2]
    have h3 : K 0x7F7FFFFF#32 < ⊤ := by
      rw [ofBits_normal _ (by decide) (by decide) (by decide)]; exact EReal.coe_lt_top _
    rw [K_tiny] at h1
    induction v using EReal.rec with
    | bot => exact absurd h1 (by simp)
    | top => exact absurd (lt_of_le_of_lt h2 h3) (by simp)
    | coe r =>
      have hr : (0 : ℝ) < r := lt_of_lt_of_le (by positivity) (EReal.coe_le_coe_iff.mp h1)
      show (r : EReal) * (if r < 0 then (⊥ : EReal) else if r = 0 then (⊤ : EReal) else (((Real.sqrt r)⁻¹ : ℝ) : EReal)) = if r < 0 then (⊥ : EReal) else ((Real.sqrt r : ℝ) : EReal)
      rw [if_neg hr.le.not_gt, if_neg hr.ne', if_neg hr.le.not_gt, ← EReal.coe_mul]
      congr 1
      rw [← div_eq_mul_inv, Real.div_sqrt]

/-- The bias correction of a step other than 0 is not 0. -/
theorem rootBias_ne_zero (n : ℤ) (hn : n ≠ 0) : rootBias ((n : ℝ) : EReal) ≠ 0 := by
  obtain ⟨r, hr, h0, h1⟩ := K_beta2
  unfold rootBias
  rw [hr, K_one]
  show Ideal.sqrt (1 - ((Real.rpow r (n : ℝ) : ℝ) : EReal)) ≠ 0
  have hp : Real.rpow r (n : ℝ) = r ^ n := Real.rpow_intCast r n
  rw [hp]
  have hne : r ^ n ≠ 1 := by
    intro h
    exact hn ((zpow_eq_one_iff_right₀ h0.le h1.ne).mp h)
  rw [show (1 : EReal) - ((r ^ n : ℝ) : EReal) = ((1 - r ^ n : ℝ) : EReal) by rw [EReal.coe_sub]; rfl]
  show (if (1 - r ^ n : ℝ) < 0 then ⊥ else ((Real.sqrt (1 - r ^ n) : ℝ) : EReal)) ≠ 0
  split
  · exact EReal.bot_ne_zero
  · rename_i h
    have hpos : 0 < 1 - r ^ n := lt_of_le_of_ne (not_lt.mp h) (fun e => hne (by linarith))
    exact fun e => (Real.sqrt_pos.mpr hpos).ne' (EReal.coe_eq_zero.mp e)

/-- The two updates agree where the second moment is zero or normal and the step is not 0. -/
theorem exact_eq (lr w wc g m v : EReal) (n : ℤ) (hn : n ≠ 0) (hv : vNew g v = 0 ∨ K 0x00800000#32 ≤ vNew g v ∧ vNew g v ≤ K 0x7F7FFFFF#32) :
    kernelExact lr ((n : ℝ) : EReal) w wc g m v = exactOf lr ((n : ℝ) : EReal) w wc g m v := by
  unfold kernelExact exactOf
  rw [kernelRoot_eq _ hv, K_one, Idealize.ShloMosaic.Ideal.mul_one_div (rootBias_ne_zero n hn)]

/-! ## One block's scale -/

/-- The greatest magnitude of a block. -/
def blockMax (f : Fin 128 → Fin 128 → EReal) : EReal := Finset.univ.sup fun p : Fin 128 × Fin 128 => max (f p.1 p.2) (-f p.1 p.2)

/-- The block's exponent, as the reference computes it. -/
def exponentOf (a : EReal) : EReal :=
  Scalar.select (Ideal.cmp .oeq a (K 0x00000000#32)) 0
    (Ideal.liftRound Int.floor (Ideal.div (Ideal.log (a * K 0x3B124925#32)) (Ideal.log (K 0x40000000#32))) + K 0x3F800000#32)
/-- The scale, as the reference computes it. -/
def scaleOf (a : EReal) : EReal := Ideal.pow (K 0x40000000#32) (exponentOf a)
/-- The inverse scale, as the reference computes it. -/
def inverseOf (a : EReal) : EReal := Ideal.pow (K 0x40000000#32) (-exponentOf a)
/-- A code. -/
def codeOf (w i : EReal) : EReal := min (K 0x43E00000#32) (max (K 0xC3E00000#32) (w * i))

/-- Whether the power of two with exponent field `k + 1` is at most `p`, as the kernel asks it. -/
def kernelBit (p : EReal) (k : ℕ) : BitVec 1 :=
  IntOp.andi (Ideal.cmp .oge p (K (IntOp.shli .vector (IntOp.addi (BitVec.ofNat 32 k) 1#32) 23#32))) (IntOp.cmpi .sle (IntOp.addi (BitVec.ofNat 32 k) 1#32) 255#32)
/-- The kernel's exponent field of `p`. -/
def kernelField (p : EReal) : BitVec 32 := BitVec.ofNat 32 ((Finset.univ : Finset (Fin 256)).filter fun k => kernelBit p k.val = 1#1).card
/-- The exponent from the exponent field, as the kernel computes it. -/
def kernelExponent (n : BitVec 32) : BitVec 32 :=
  Scalar.select (IntOp.ori (IntOp.cmpi .eq n 0#32) (IntOp.cmpi .eq n 255#32)) 0#32 (IntOp.subi n 126#32)
/-- The kernel's scale. -/
def kernelScale (e : BitVec 32) : EReal := K (IntOp.shli .vector (IntOp.addi 127#32 e) 23#32)
/-- The kernel's inverse scale. -/
def kernelInverse (e : BitVec 32) : EReal := K (IntOp.shli .vector (IntOp.subi 127#32 e) 23#32)

theorem words : ∀ k : Fin 256, IntOp.shli .vector (IntOp.addi (BitVec.ofNat 32 k.val) 1#32) 23#32 = BitVec.ofNat 32 (k.val + 1) <<< 23
    ∧ IntOp.cmpi .sle (IntOp.addi (BitVec.ofNat 32 k.val) 1#32) 255#32 = BitVec.ofBool (decide (k.val + 1 ≤ 255)) := by
  decide +kernel

theorem kernelBit_eq (p : EReal) (k : Fin 256) : kernelBit p k.val = 1#1 ↔ K (BitVec.ofNat 32 (k.val + 1) <<< 23) ≤ p ∧ k.val + 1 ≤ 255 := by
  unfold kernelBit
  rw [(words k).1, (words k).2]
  show IntOp.andi (BitVec.ofBool (decide (K (BitVec.ofNat 32 (k.val + 1) <<< 23) ≤ p))) _ = 1#1 ↔ _
  by_cases h1 : K (BitVec.ofNat 32 (k.val + 1) <<< 23) ≤ p <;> by_cases h2 : k.val + 1 ≤ 255 <;> simp [h1, h2, IntOp.andi]

theorem card_below : ∀ n : Fin 256, ((Finset.univ : Finset (Fin 256)).filter fun k => k.val < n.val).card = n.val := by
  intro n
  have h : ((Finset.univ : Finset (Fin 256)).filter fun k => k.val < n.val) = Finset.Iio n := by
    ext k; simp only [Finset.mem_filter, Finset.mem_univ, true_and, Finset.mem_Iio, Fin.lt_def]
  rw [h, Fin.card_Iio]

/-- A positive number between two neighbouring powers of two. -/
theorem kernelField_normal (r : ℝ) (E : ℤ) (h0 : -126 ≤ E) (h1 : E ≤ 125) (hl : (2 : ℝ) ^ E ≤ r) (hu : r < (2 : ℝ) ^ (E + 1)) :
    kernelField (r : EReal) = BitVec.ofNat 32 (E + 127).toNat := by
  have hc := card_below ⟨(E + 127).toNat, by omega⟩
  unfold kernelField
  congr 1
  refine Eq.trans ?_ hc
  congr 1
  ext k
  simp only [Finset.mem_filter, Finset.mem_univ, true_and]
  rw [kernelBit_eq]
  have hk := k.isLt
  constructor
  · rintro ⟨hp, hk'⟩
    by_cases hk2 : k.val + 1 ≤ 254
    · rw [ofBits_field _ (by omega) hk2, EReal.coe_le_coe_iff] at hp
      have := (zpow_lt_zpow_iff_right₀ (by norm_num : (1 : ℝ) < 2)).mp (lt_of_le_of_lt hp hu)
      omega
    · have : k.val + 1 = 255 := by omega
      rw [this, ofBits_inf] at hp
      exact absurd hp (by simp)
  · intro hp
    have hk2 : k.val + 1 ≤ 254 := by omega
    refine ⟨?_, by omega⟩
    rw [ofBits_field _ (by omega) hk2, EReal.coe_le_coe_iff]
    refine le_trans (zpow_le_zpow_right₀ (by norm_num) ?_) hl
    omega

/-- Nothing is at most 0. -/
theorem kernelField_zero : kernelField 0 = 0#32 := by
  unfold kernelField
  have h : ((Finset.univ : Finset (Fin 256)).filter fun k => kernelBit 0 k.val = 1#1) = ∅ := by
    refine Finset.filter_eq_empty_iff.mpr fun k _ => ?_
    rw [kernelBit_eq]
    rintro ⟨hp, hk'⟩
    by_cases hk2 : k.val + 1 ≤ 254
    · rw [ofBits_field _ (by omega) hk2] at hp
      have h := EReal.coe_le_coe_iff.mp (show (((2 : ℝ) ^ (((k.val + 1 : ℕ) : ℤ) - 127) : ℝ) : EReal) ≤ ((0 : ℝ) : EReal) from hp)
      exact absurd h (by have : (0 : ℝ) < (2 : ℝ) ^ (((k.val + 1 : ℕ) : ℤ) - 127) := by positivity
                         linarith)
    · have : k.val + 1 = 255 := by omega
      rw [this, ofBits_inf] at hp
      exact absurd hp (by simp)
  rw [h]
  rfl

theorem words_scale : ∀ n : Fin 254, 1 ≤ n.val →
    IntOp.shli .vector (IntOp.addi 127#32 (kernelExponent (BitVec.ofNat 32 n.val))) 23#32 = BitVec.ofNat 32 (n.val + 1) <<< 23
    ∧ IntOp.shli .vector (IntOp.subi 127#32 (kernelExponent (BitVec.ofNat 32 n.val))) 23#32 = BitVec.ofNat 32 (253 - n.val) <<< 23 := by
  decide +kernel

theorem words_zero : IntOp.shli .vector (IntOp.addi 127#32 (kernelExponent 0#32)) 23#32 = BitVec.ofNat 32 127 <<< 23
    ∧ IntOp.shli .vector (IntOp.subi 127#32 (kernelExponent 0#32)) 23#32 = BitVec.ofNat 32 127 <<< 23 := by
  decide +kernel

/-- The floor of the logarithm says between which powers of two a number lies. -/
theorem floor_log (r : ℝ) (E : ℤ) (hr : 0 < r) (hl : (2 : ℝ) ^ E ≤ r) (hu : r < (2 : ℝ) ^ (E + 1)) : ⌊Real.log r / Real.log 2⌋ = E := by
  have h2 : (0 : ℝ) < Real.log 2 := Real.log_pos (by norm_num)
  rw [Int.floor_eq_iff]
  constructor
  · rw [le_div_iff₀ h2, ← Real.log_zpow]
    exact Real.log_le_log (by positivity) hl
  · rw [div_lt_iff₀ h2, show ((E : ℝ) + 1) = ((E + 1 : ℤ) : ℝ) by push_cast; ring, ← Real.log_zpow]
    exact Real.log_lt_log hr hu

/-- Every positive number lies between two neighbouring powers of two. -/
theorem exists_binade (r : ℝ) (hr : 0 < r) : ∃ E : ℤ, (2 : ℝ) ^ E ≤ r ∧ r < (2 : ℝ) ^ (E + 1) := by
  obtain ⟨E, h1, h2⟩ := exists_mem_Ico_zpow hr (by norm_num : (1 : ℝ) < 2)
  exact ⟨E, h1, h2⟩

/-- The reference's exponent of a positive number. -/
theorem exponentOf_normal (a : EReal) (r : ℝ) (E : ℤ) (ha : a * K 0x3B124925#32 = (r : EReal)) (hr : 0 < r) (hl : (2 : ℝ) ^ E ≤ r) (hu : r < (2 : ℝ) ^ (E + 1)) :
    exponentOf a = (((E + 1 : ℤ) : ℝ) : EReal) := by
  have hne : a ≠ 0 := by
    rintro rfl
    rw [zero_mul] at ha
    exact hr.ne' (EReal.coe_eq_zero.mp ha.symm)
  unfold exponentOf
  have hc : Ideal.cmp .oeq a (K 0x00000000#32) = 0#1 := by
    rw [K_zero]
    show BitVec.ofBool (decide (a = 0)) = 0#1
    simp [hne]
  rw [hc, select_zero, ha, K_two, K_one]
  have e1 : Ideal.log ((r : ℝ) : EReal) = ((Real.log r : ℝ) : EReal) := by
    show (if r ≤ 0 then ⊥ else (Real.log r : EReal)) = _
    rw [if_neg (not_le.mpr hr)]
  have e2 : Ideal.log ((2 : ℝ) : EReal) = ((Real.log 2 : ℝ) : EReal) := by
    show (if (2 : ℝ) ≤ 0 then ⊥ else (Real.log 2 : EReal)) = _
    rw [if_neg (by norm_num)]
  have hlog2 : (0 : ℝ) < Real.log 2 := Real.log_pos (by norm_num)
  rw [e1, e2]
  have e3 : Ideal.div ((Real.log r : ℝ) : EReal) ((Real.log 2 : ℝ) : EReal) = ((Real.log r / Real.log 2 : ℝ) : EReal) := by
    unfold Ideal.div
    rw [if_neg (fun e => hlog2.ne' (EReal.coe_eq_zero.mp e)), ← EReal.coe_inv, ← EReal.coe_mul]
    rfl
  rw [e3]
  have e4 : ⌊Real.log r / Real.log 2⌋ = E := floor_log r E hr hl hu
  show (((⌊Real.log r / Real.log 2⌋ : ℤ) : ℝ) : EReal) + 1 = _
  rw [e4, show ((E + 1 : ℤ) : ℝ) = (E : ℝ) + 1 by push_cast; rfl, EReal.coe_add, EReal.coe_one]

theorem exponentOf_zero : exponentOf 0 = 0 := by
  unfold exponentOf
  have hc : Ideal.cmp .oeq 0 (K 0x00000000#32) = 1#1 := by
    rw [K_zero]
    show BitVec.ofBool (decide ((0 : EReal) = 0)) = 1#1
    simp
  rw [hc, select_one]

theorem pow_two (e : ℤ) : Ideal.pow (K 0x40000000#32) ((e : ℝ) : EReal) = (((2 : ℝ) ^ e : ℝ) : EReal) := by
  rw [K_two]
  show ((Real.rpow 2 (e : ℝ) : ℝ) : EReal) = _
  congr 1
  exact Real.rpow_intCast 2 e

/-- The two scales, and the two inverse scales, agree where the block's maximum over 448 is zero or a normal number below 2¹²⁶. -/
theorem scale_eq (a : EReal) (h : a * K 0x3B124925#32 = 0 ∨ K 0x00800000#32 ≤ a * K 0x3B124925#32 ∧ a * K 0x3B124925#32 < K 0x7E800000#32) :
    kernelScale (kernelExponent (kernelField (a * K 0x3B124925#32))) = scaleOf a
    ∧ kernelInverse (kernelExponent (kernelField (a * K 0x3B124925#32))) = inverseOf a := by
  rcases h with h | ⟨h1, h2⟩
  · obtain ⟨c, hc, hc0⟩ := K_inv448
    have ha : a = 0 := by
      rcases mul_eq_zero.mp h with h | h
      · exact h
      · rw [hc] at h
        exact absurd (EReal.coe_eq_zero.mp h) hc0.ne'
    rw [h, kernelField_zero]
    unfold kernelScale kernelInverse scaleOf inverseOf
    rw [words_zero.1, words_zero.2, ha, exponentOf_zero, ofBits_field 127 (by norm_num) (by norm_num)]
    have e := pow_two 0
    have h0 : (((0 : ℤ) : ℝ) : EReal) = 0 := by norm_num
    rw [h0] at e
    rw [neg_zero, e]
    norm_num
  · rw [K_tiny] at h1
    rw [K_huge] at h2
    have hx : ∃ r : ℝ, a * K 0x3B124925#32 = (r : EReal) := by
      generalize a * K 0x3B124925#32 = p at h1 h2
      induction p using EReal.rec with
      | bot => exact absurd h1 (by simp)
      | top => exact absurd h2 (by simp)
      | coe r => exact ⟨r, rfl⟩
    obtain ⟨r, hr⟩ := hx
    rw [hr] at h1 h2 ⊢
    rw [EReal.coe_le_coe_iff] at h1
    rw [EReal.coe_lt_coe_iff] at h2
    have hr0 : 0 < r := lt_of_lt_of_le (by positivity) h1
    obtain ⟨E, hl, hu⟩ := exists_binade r hr0
    have hE0 : -126 ≤ E := by
      have := (zpow_lt_zpow_iff_right₀ (by norm_num : (1 : ℝ) < 2)).mp (lt_of_le_of_lt h1 hu)
      omega
    have hE1 : E ≤ 125 := by
      have := (zpow_lt_zpow_iff_right₀ (by norm_num : (1 : ℝ) < 2)).mp (lt_of_le_of_lt hl h2)
      omega
    rw [kernelField_normal r E hE0 hE1 hl hu]
    have hw := words_scale ⟨(E + 127).toNat, by omega⟩ (by show 1 ≤ (E + 127).toNat; omega)
    simp only at hw
    unfold kernelScale kernelInverse scaleOf inverseOf
    rw [hw.1, hw.2, exponentOf_normal a r E hr hr0 hl hu, ofBits_field _ (by omega) (by omega), ofBits_field _ (by omega) (by omega),
      show (-(((E + 1 : ℤ) : ℝ) : EReal)) = (((-(E + 1) : ℤ) : ℝ) : EReal) by push_cast; rfl, pow_two, pow_two]
    constructor
    · congr 2; omega
    · congr 2; omega

end Cert.Adam

end
-- ==== Proof.Model.lean ====
/- The shapes of the arrays cut into blocks: where a block's elements lie, and what each result holds, element by
   element, of the arguments. -/
module

public import proofs.«01_k».proof.Proof.Scalars

@[expose] public section

noncomputable section

namespace Cert.Adam

open Idealize.ShloMosaic

/-- A step number as an extended real. -/
def stepReal (st : BitVec 32) : EReal := ((st.toInt : ℝ) : EReal)

/-- Row `r` of row block `j`. -/
def rowIn (j : Fin 4) (r : Fin 128) : Fin 512 := ⟨128 * j.val + r.val, by omega⟩
/-- Column `q` of column block `k`. -/
def colIn (k : Fin 14) (q : Fin 128) : Fin 1792 := ⟨128 * k.val + q.val, by omega⟩
/-- The row block of a row. -/
def rowBlock (r : Fin 512) : Fin 4 := ⟨r.val / 128, by omega⟩
/-- The column block of a column. -/
def colBlock (q : Fin 1792) : Fin 14 := ⟨q.val / 128, by omega⟩

/-- The largest absolute value of a block of 128 by 128. -/
def blockOf (f : Fin 5 → Fin 512 → Fin 1792 → EReal) (b : Fin 5) (j : Fin 4) (k : Fin 14) : EReal :=
  blockMax fun r q => f b (rowIn j r) (colIn k q)

/-- The exponent of a block's scale, as the kernel computes it. -/
def blockExponent (f : Fin 5 → Fin 512 → Fin 1792 → EReal) (b : Fin 5) (j : Fin 4) (k : Fin 14) : BitVec 32 :=
  kernelExponent (kernelField (blockOf f b j k * K 0x3B124925#32))

end Cert.Adam

end
-- ==== Proof.TileValues.lean ====
/- What the kernel computes of a column block, element by element, on extended reals. -/
module

public import proofs.«01_k».proof.Proof.KernelTiles
public import proofs.«01_k».proof.Proof.Model
public import Idealize.ShloMosaic.Lib.ValueIdxCoords
public import Idealize.ShloMosaic.Lib.ValueLayout
public import Idealize.ShloMosaic.Lib.IndicatorCount
public import Idealize.ShloMosaic.Lib.Pointwise.Reduce

@[expose] public section

set_option maxRecDepth 16384

noncomputable section

namespace Cert.KernelIdeal.Hand

open Cert.KernelIdeal Cert.KernelIdeal.Gen Cert.Adam
open Idealize.ShloMosaic hiding ix1 ix2 ix3 ix4 ix5
open Idealize.ShloMosaic.ValueIdx

variable (lr : Elt Ideal .f32) (st : Elt Ideal .i32) (w wc g : Vec Ideal S1x128x128 .bf16) (m v : Vec Ideal S1x128x128 .f32)

theorem pay5_apply (j : S1x128.Idx) : k0_pay5 (F := Ideal) lr st j = stepOf lr (stepReal st) := rfl
theorem pay6_apply (j : S1x128.Idx) : k0_pay6 (F := Ideal) st j = Ideal.div (K 0x3F800000#32) (rootBias (stepReal st)) := rfl
theorem pay7_apply (j : S1x128.Idx) : k0_pay7 (F := Ideal) lr j = decayOf lr := rfl

theorem pay9_apply (r q : Fin 128) : k0_pay9 (F := Ideal) w wc (ix2 r q) = w (ix3 (0 : Fin 1) r q) + wc (ix3 (0 : Fin 1) r q) := by
  unfold k0_pay9
  simp only [addf_apply, extf_apply, shapeCast_1ab_ab_apply]

theorem pay10_apply (r q : Fin 128) : k0_pay10 (F := Ideal) g (ix2 r q) = g (ix3 (0 : Fin 1) r q) := by
  unfold k0_pay10
  simp only [extf_apply, shapeCast_1ab_ab_apply]

theorem pay11_apply (r q : Fin 128) : k0_pay11 (F := Ideal) (k0_pay10 g) m (ix2 r q) = mNew (g (ix3 (0 : Fin 1) r q)) (m (ix3 (0 : Fin 1) r q)) := by
  unfold k0_pay11
  simp only [addf_apply, mulf_apply, shapeCast_1ab_ab_apply, pay10_apply]
  rfl

theorem pay12_apply (r q : Fin 128) : k0_pay12 (F := Ideal) (k0_pay10 g) v (ix2 r q) = vNew (g (ix3 (0 : Fin 1) r q)) (v (ix3 (0 : Fin 1) r q)) := by
  unfold k0_pay12
  simp only [addf_apply, mulf_apply, shapeCast_1ab_ab_apply, pay10_apply]
  rfl

/-- The exact new weight of an element of the column block. -/
theorem tExact_apply (r q : Fin 128) : tExact (F := Ideal) lr st w wc g m v (ix2 r q)
    = kernelExact lr (stepReal st) (w (ix3 (0 : Fin 1) r q)) (wc (ix3 (0 : Fin 1) r q)) (g (ix3 (0 : Fin 1) r q)) (m (ix3 (0 : Fin 1) r q)) (v (ix3 (0 : Fin 1) r q)) := by
  unfold tExact k0_pay15 kernelExact kernelRoot
  simp only [subf_apply, mulf_apply, divf_apply, addf_apply, broadcastTo_1b_ab_apply, pay5_apply, pay6_apply, pay7_apply, pay9_apply, pay11_apply]
  rw [← pay12_apply]
  rfl

theorem tW_apply (r q : Fin 128) : tW (F := Ideal) lr st w wc g m v (ix2 r q)
    = kernelExact lr (stepReal st) (w (ix3 (0 : Fin 1) r q)) (wc (ix3 (0 : Fin 1) r q)) (g (ix3 (0 : Fin 1) r q)) (m (ix3 (0 : Fin 1) r q)) (v (ix3 (0 : Fin 1) r q)) :=
  tExact_apply lr st w wc g m v r q

theorem tNew_apply (z : Fin 1) (r q : Fin 128) : tNew (F := Ideal) lr st w wc g m v (ix3 z r q) = tW lr st w wc g m v (ix2 r q) := by
  unfold tNew k0_pay17
  rw [shapeCast_ab_1ab_apply]

theorem tComp_apply (z : Fin 1) (r q : Fin 128) : tComp (F := Ideal) lr st w wc g m v (ix3 z r q)
    = (show EReal from tW lr st w wc g m v (ix2 r q)) - (show EReal from tW lr st w wc g m v (ix2 r q)) := by
  unfold tComp k0_pay18
  rw [shapeCast_ab_1ab_apply]
  rfl

theorem tM_apply (z : Fin 1) (r q : Fin 128) : tM (F := Ideal) g m (ix3 z r q) = mNew (g (ix3 (0 : Fin 1) r q)) (m (ix3 (0 : Fin 1) r q)) := by
  unfold tM k0_pay13
  rw [shapeCast_ab_1ab_apply, pay11_apply]

theorem tV_apply (z : Fin 1) (r q : Fin 128) : tV (F := Ideal) g v (ix3 z r q) = vNew (g (ix3 (0 : Fin 1) r q)) (v (ix3 (0 : Fin 1) r q)) := by
  unfold tV k0_pay14
  rw [shapeCast_ab_1ab_apply, pay12_apply]

/-- A fold down the rows of a matrix. -/
theorem fold_rows {a b : ℕ} {α : Type} (op : α → α → α) [Std.Commutative op] [Std.Associative op]
    (h : (⟨2, ![a, b]⟩ : Shape).Reduces [0] ⟨1, ![b]⟩) (q : Fin b) (z : α) (x : (⟨2, ![a, b]⟩ : Shape).Idx → α) :
    (Finset.univ.filter fun i => h.drop i = ix1 q).fold op z x = (Finset.univ : Finset (Fin a)).fold op z fun r => x (ix2 r q) := by
  rw [Shape.Reduces.fold_fiber_r2_a0]
  refine congrArg (fun f => (Finset.univ : Finset (Fin a)).fold op z f) (funext fun r => congrArg x (funext fun d => ?_))
  match d with
  | ⟨0, _⟩ => rfl
  | ⟨1, _⟩ => rfl

/-- A fold along the columns of a matrix. -/
theorem fold_cols {a b : ℕ} {α : Type} (op : α → α → α) [Std.Commutative op] [Std.Associative op]
    (h : (⟨2, ![a, b]⟩ : Shape).Reduces [1] ⟨1, ![a]⟩) (q : Fin a) (z : α) (x : (⟨2, ![a, b]⟩ : Shape).Idx → α) :
    (Finset.univ.filter fun i => h.drop i = ix1 q).fold op z x = (Finset.univ : Finset (Fin b)).fold op z fun r => x (ix2 q r) := by
  rw [Shape.Reduces.fold_fiber_r2_a1]
  refine congrArg (fun f => (Finset.univ : Finset (Fin b)).fold op z f) (funext fun r => congrArg x (funext fun d => ?_))
  match d with
  | ⟨0, _⟩ => rfl
  | ⟨1, _⟩ => rfl

/-- The pattern of minus infinity. -/
theorem ofBits_neg_inf : Ideal.ofBits .f32 0xFF800000#32 = ⊥ := by
  show Ideal.ieee 8 23 (0xFF800000#32) = ⊥
  simp [Ideal.ieee]

/-- A column block's maximum, taken down the rows and then across. -/
theorem max_apply (x : FVec Ideal S128x128 .f32) :
    shapeCast S1x1 (multiReduction .maximumf [1] S1 (shapeCast S1x128 (multiReduction .maximumf [0] S128 x 0xFF800000#32 reduces_S128x128_S128 (.inl rfl) rfl) shapeCasts_S128_S1x128)
      0xFF800000#32 reduces_S1x128_S1 (.inl rfl) rfl) shapeCasts_S1_S1x1 (ix2 (0 : Fin 1) (0 : Fin 1))
    = Finset.univ.sup fun p : Fin 128 × Fin 128 => (show EReal from x (ix2 p.1 p.2)) := by
  rw [shapeCast_a_1a_apply]
  refine ((multiReduction_maximumf_eq_fold ..).trans (fold_cols _ _ _ _ _)).trans ?_
  have h : ∀ q : Fin 128, shapeCast S1x128 (multiReduction .maximumf [0] S128 x 0xFF800000#32 reduces_S128x128_S128 (.inl rfl) rfl) shapeCasts_S128_S1x128 (ix2 (0 : Fin 1) q)
      = Finset.univ.sup fun r : Fin 128 => (show EReal from x (ix2 r q)) := by
    intro q
    rw [shapeCast_a_1a_apply]
    refine ((multiReduction_maximumf_eq_fold ..).trans (fold_rows _ _ _ _ _)).trans ?_
    show (Finset.univ : Finset (Fin 128)).fold max (Ideal.ofBits .f32 0xFF800000#32) _ = _
    rw [ofBits_neg_inf]
    rfl
  show (Finset.univ : Finset (Fin 128)).fold max (Ideal.ofBits .f32 0xFF800000#32) _ = _
  rw [ofBits_neg_inf]
  refine Eq.trans (b := Finset.univ.sup fun q : Fin 128 => Finset.univ.sup fun r : Fin 128 => (show EReal from x (ix2 r q))) ?_ ?_
  · show (Finset.univ.sup fun q : Fin 128 => _) = _
    exact Finset.sup_congr rfl fun q _ => h q
  · rw [← Finset.univ_product_univ, Finset.sup_product_right]

theorem broadcastTo_one {a b : ℕ} {α : Type} (x : S1x1.Idx → α) (h : S1x1.Broadcasts ⟨2, ![a, b]⟩) (i) :
    broadcastTo ⟨2, ![a, b]⟩ x h i = x (ix2 (0 : Fin 1) (0 : Fin 1)) :=
  broadcastTo_apply x h i _ fun ax => match ax with | ⟨0, _⟩ => rfl | ⟨1, _⟩ => rfl

/-- The exponent field that the kernel counts. -/
theorem field_apply (x : FVec Ideal S1x1 .f32) :
    shapeCast S1x1 (multiReductionI .add [1] S1 (extui 32 (andi
      (cmpf .oge (broadcastTo S1x256 x broadcasts_S1x1_S1x256) (bitcastToFloat .f32 (shli (addi (iota .tc S1x256 32 [1] iota_S1x256_d1_w32) (broadcast S1x256 1#32)) (broadcast S1x256 23#32))))
      (cmpi .sle (addi (iota .tc S1x256 32 [1] iota_S1x256_d1_w32) (broadcast S1x256 1#32)) (broadcast S1x256 255#32))) natLt_1_32) 0#32 reduces_S1x256_S1 rfl)
      shapeCasts_S1_S1x1 (ix2 (0 : Fin 1) (0 : Fin 1))
    = kernelField (x (ix2 (0 : Fin 1) (0 : Fin 1))) := by
  rw [shapeCast_a_1a_apply]
  refine ((multiReductionI_eq_fold ..).trans (fold_cols _ _ _ _ _)).trans ?_
  refine Eq.trans (b := (Finset.univ : Finset (Fin 256)).fold IntOp.addi 0#32 fun k => (kernelBit (x (ix2 (0 : Fin 1) (0 : Fin 1))) k.val).setWidth 32) ?_ ?_
  · refine Finset.fold_congr fun k _ => ?_
    show (IntOp.andi (Ideal.cmp .oge (broadcastTo S1x256 x broadcasts_S1x1_S1x256 (ix2 (0 : Fin 1) k))
      (K (IntOp.shli .vector (IntOp.addi (BitVec.ofNat 32 (0 * 256 + k.val)) 1#32) 23#32))) (IntOp.cmpi .sle (IntOp.addi (BitVec.ofNat 32 (0 * 256 + k.val)) 1#32) 255#32)).setWidth 32 = _
    rw [broadcastTo_one, Nat.zero_mul, Nat.zero_add, kernelBit]
  · rw [kernelField]
    exact IndicatorCount.fold_addi_setWidth_eq_card (fun k : Fin 256 => kernelBit (x (ix2 (0 : Fin 1) (0 : Fin 1))) k.val) Finset.univ

/-- The exponent of a block's scale. -/
theorem pay19_apply (x : FVec Ideal S128x128 .bf16) : k0_pay19 x (ix2 (0 : Fin 1) (0 : Fin 1))
    = kernelExponent (kernelField (blockMax (fun r q => x (ix2 r q)) * K 0x3B124925#32)) := by
  have h := field_apply (mulf (shapeCast S1x1 (multiReduction .maximumf [1] S1 (shapeCast S1x128 (multiReduction .maximumf [0] S128
    (extf .f32 (absf x) bitsLt_bf16_f32) 0xFF800000#32 reduces_S128x128_S128 (.inl rfl) rfl) shapeCasts_S128_S1x128)
      0xFF800000#32 reduces_S1x128_S1 (.inl rfl) rfl) shapeCasts_S1_S1x1) (broadcast S1x1 (Scalar.ofBits .f32 0x3B124925#32)))
  rw [mulf_apply, max_apply] at h
  exact congrArg kernelExponent h

/-- The exponent of the column block's scale. -/
theorem tExp_apply : tExp (F := Ideal) lr st w wc g m v (ix2 (0 : Fin 1) (0 : Fin 1))
    = kernelExponent (kernelField (blockMax (fun r q => tW lr st w wc g m v (ix2 r q)) * K 0x3B124925#32)) :=
  pay19_apply _

/-- A code. -/
theorem pay23_apply (x : FVec Ideal S128x128 .bf16) (e : IVec S1x1 32) (r q : Fin 128) :
    k0_pay23 x e (ix2 r q) = codeOf (x (ix2 r q)) (kernelInverse (e (ix2 (0 : Fin 1) (0 : Fin 1)))) := by
  unfold k0_pay23 codeOf
  rw [← K_448, ← K_neg448, min_comm, max_comm]
  show min (max ((show EReal from x (ix2 r q)) * broadcastTo S128x128 _ _ (ix2 r q)) _) _ = _
  rw [broadcastTo_one]
  rfl

theorem tCodes_apply (z : Fin 1) (r q : Fin 128) : tCodes (F := Ideal) lr st w wc g m v (ix3 z r q)
    = codeOf (tW lr st w wc g m v (ix2 r q)) (kernelInverse (tExp (F := Ideal) lr st w wc g m v (ix2 (0 : Fin 1) (0 : Fin 1)))) := by
  unfold tCodes k0_pay24
  rw [shapeCast_ab_1ab_apply, truncf_apply, pay23_apply]

theorem tCodesT_apply (z : Fin 1) (q r : Fin 128) : tCodesT (F := Ideal) lr st w wc g m v (ix3 z q r)
    = codeOf (tW lr st w wc g m v (ix2 r q)) (kernelInverse (tExp (F := Ideal) lr st w wc g m v (ix2 (0 : Fin 1) (0 : Fin 1)))) := by
  unfold tCodesT k0_pay25
  rw [shapeCast_ab_1ab_apply, truncf_apply, transpose_ix2_apply, pay23_apply]

/-- Putting a scale at position `k` of the row. -/
theorem sStep_apply (k : BitVec 32) (e : IVec S1x1 32) (row : FVec Ideal S1x128 .f32) (q : Fin 128) :
    sStep k e row (ix2 (0 : Fin 1) q) = Scalar.select (IntOp.cmpi .eq (BitVec.ofNat 32 q.val) k) (kernelScale (e (ix2 (0 : Fin 1) (0 : Fin 1)))) (row (ix2 (0 : Fin 1) q)) := by
  unfold sStep
  show Scalar.select _ (broadcastTo S1x128 (shapeCast S1x1 _ _) _ (ix2 (0 : Fin 1) q)) _ = _
  rw [broadcastTo_one, shapeCast_apply _ _ (ix2 (0 : Fin 1) (0 : Fin 1)) (ix2 (0 : Fin 1) (0 : Fin 1)) rfl]
  show Scalar.select (IntOp.cmpi .eq (BitVec.ofNat 32 (0 * 128 + q.val)) k) _ _ = _
  rw [Nat.zero_mul, Nat.zero_add]
  rfl

end Cert.KernelIdeal.Hand

end
-- ==== Proof.KernelValue.lean ====
/- What the kernel's results hold, element by element, of its arguments, on extended reals. -/
module

public import proofs.«01_k».proof.Proof.KernelFrame
public import proofs.«01_k».proof.Proof.TileValues
public import Idealize.ShloMosaic.Lib.Pipeline.ValueKit

@[expose] public section

set_option maxRecDepth 16384

noncomputable section

namespace Cert.KernelIdeal.Hand

open Cert.KernelIdeal Cert.KernelIdeal.Gen Cert.Adam
open Idealize.ShloMosaic hiding ix1 ix2 ix3 ix4 ix5
open Idealize.ShloMosaic.ValueIdx Idealize.ShloMosaic.TcCoe
open Idealize.ShloMosaic.Pipeline (Dat RDat Cfg Window)

/-- The entry of the stack that a grid point works on. -/
def bOf (t : Fin cfg0.N) : Fin 5 := ⟨t.val / 4, by have h : t.val < 20 := t.isLt; omega⟩
/-- The row block that a grid point works on. -/
def jOf (t : Fin cfg0.N) : Fin 4 := ⟨t.val % 4, by omega⟩

theorem coords_zero (t : Fin cfg0.N) : ((grid0.coords t) 0).val = t.val / 4 := by
  revert t; decide +kernel

theorem off1_eq (t : Fin cfg0.N) : k0_off1 (grid0.coords t) 0 = t.val / 4 := by
  rw [k0_off1_eq]
  exact coords_zero t

/-! ## Where the windows' blocks lie -/

theorem index_2 : ∀ t : Fin cfg0.N, win0_2.index t 0 = t.val / 4 ∧ win0_2.index t 1 = t.val % 4 ∧ win0_2.index t 2 = 0 := by decide +kernel
theorem emb_2 (t : Fin cfg0.N) (y : S1x128x1792.Idx) : ((win0_2.blk t).view.emb y : S5x512x1792.Idx) = ix3 (bOf t) (rowIn (jOf t) (y 1)) (y 2) := by
  have h := index_2 t
  funext a
  apply Fin.ext
  match a with
  | ⟨0, _⟩ =>
    show ((win0_2.blk t).view.emb y 0).val = t.val / 4
    blk_simp
    exact h.1
  | ⟨1, _⟩ =>
    show ((win0_2.blk t).view.emb y 1).val = 128 * (t.val % 4) + (y 1).val
    blk_simp
    rw [h.2.1, Nat.mul_comm]
  | ⟨2, _⟩ =>
    show ((win0_2.blk t).view.emb y 2).val = (y 2).val
    blk_simp
    rw [h.2.2, Nat.zero_mul, Nat.zero_add]

theorem index_3 : ∀ t : Fin cfg0.N, win0_3.index t 0 = t.val / 4 ∧ win0_3.index t 1 = t.val % 4 ∧ win0_3.index t 2 = 0 := by decide +kernel
theorem emb_3 (t : Fin cfg0.N) (y : S1x128x1792.Idx) : ((win0_3.blk t).view.emb y : S5x512x1792.Idx) = ix3 (bOf t) (rowIn (jOf t) (y 1)) (y 2) := by
  have h := index_3 t
  funext a
  apply Fin.ext
  match a with
  | ⟨0, _⟩ =>
    show ((win0_3.blk t).view.emb y 0).val = t.val / 4
    blk_simp
    exact h.1
  | ⟨1, _⟩ =>
    show ((win0_3.blk t).view.emb y 1).val = 128 * (t.val % 4) + (y 1).val
    blk_simp
    rw [h.2.1, Nat.mul_comm]
  | ⟨2, _⟩ =>
    show ((win0_3.blk t).view.emb y 2).val = (y 2).val
    blk_simp
    rw [h.2.2, Nat.zero_mul, Nat.zero_add]

theorem index_4 : ∀ t : Fin cfg0.N, win0_4.index t 0 = t.val / 4 ∧ win0_4.index t 1 = t.val % 4 ∧ win0_4.index t 2 = 0 := by decide +kernel
theorem emb_4 (t : Fin cfg0.N) (y : S1x128x1792.Idx) : ((win0_4.blk t).view.emb y : S5x512x1792.Idx) = ix3 (bOf t) (rowIn (jOf t) (y 1)) (y 2) := by
  have h := index_4 t
  funext a
  apply Fin.ext
  match a with
  | ⟨0, _⟩ =>
    show ((win0_4.blk t).view.emb y 0).val = t.val / 4
    blk_simp
    exact h.1
  | ⟨1, _⟩ =>
    show ((win0_4.blk t).view.emb y 1).val = 128 * (t.val % 4) + (y 1).val
    blk_simp
    rw [h.2.1, Nat.mul_comm]
  | ⟨2, _⟩ =>
    show ((win0_4.blk t).view.emb y 2).val = (y 2).val
    blk_simp
    rw [h.2.2, Nat.zero_mul, Nat.zero_add]

theorem index_5 : ∀ t : Fin cfg0.N, win0_5.index t 0 = t.val / 4 ∧ win0_5.index t 1 = t.val % 4 ∧ win0_5.index t 2 = 0 := by decide +kernel
theorem emb_5 (t : Fin cfg0.N) (y : S1x128x1792.Idx) : ((win0_5.blk t).view.emb y : S5x512x1792.Idx) = ix3 (bOf t) (rowIn (jOf t) (y 1)) (y 2) := by
  have h := index_5 t
  funext a
  apply Fin.ext
  match a with
  | ⟨0, _⟩ =>
    show ((win0_5.blk t).view.emb y 0).val = t.val / 4
    blk_simp
    exact h.1
  | ⟨1, _⟩ =>
    show ((win0_5.blk t).view.emb y 1).val = 128 * (t.val % 4) + (y 1).val
    blk_simp
    rw [h.2.1, Nat.mul_comm]
  | ⟨2, _⟩ =>
    show ((win0_5.blk t).view.emb y 2).val = (y 2).val
    blk_simp
    rw [h.2.2, Nat.zero_mul, Nat.zero_add]

theorem index_6 : ∀ t : Fin cfg0.N, win0_6.index t 0 = t.val / 4 ∧ win0_6.index t 1 = t.val % 4 ∧ win0_6.index t 2 = 0 := by decide +kernel
theorem emb_6 (t : Fin cfg0.N) (y : S1x128x1792.Idx) : ((win0_6.blk t).view.emb y : S5x512x1792.Idx) = ix3 (bOf t) (rowIn (jOf t) (y 1)) (y 2) := by
  have h := index_6 t
  funext a
  apply Fin.ext
  match a with
  | ⟨0, _⟩ =>
    show ((win0_6.blk t).view.emb y 0).val = t.val / 4
    blk_simp
    exact h.1
  | ⟨1, _⟩ =>
    show ((win0_6.blk t).view.emb y 1).val = 128 * (t.val % 4) + (y 1).val
    blk_simp
    rw [h.2.1, Nat.mul_comm]
  | ⟨2, _⟩ =>
    show ((win0_6.blk t).view.emb y 2).val = (y 2).val
    blk_simp
    rw [h.2.2, Nat.zero_mul, Nat.zero_add]

theorem index_7 : ∀ t : Fin cfg0.N, win0_7.index t 0 = t.val / 4 ∧ win0_7.index t 1 = t.val % 4 ∧ win0_7.index t 2 = 0 := by decide +kernel
theorem emb_7 (t : Fin cfg0.N) (y : S1x128x1792.Idx) : ((win0_7.blk t).view.emb y : S5x512x1792.Idx) = ix3 (bOf t) (rowIn (jOf t) (y 1)) (y 2) := by
  have h := index_7 t
  funext a
  apply Fin.ext
  match a with
  | ⟨0, _⟩ =>
    show ((win0_7.blk t).view.emb y 0).val = t.val / 4
    blk_simp
    exact h.1
  | ⟨1, _⟩ =>
    show ((win0_7.blk t).view.emb y 1).val = 128 * (t.val % 4) + (y 1).val
    blk_simp
    rw [h.2.1, Nat.mul_comm]
  | ⟨2, _⟩ =>
    show ((win0_7.blk t).view.emb y 2).val = (y 2).val
    blk_simp
    rw [h.2.2, Nat.zero_mul, Nat.zero_add]

theorem index_8 : ∀ t : Fin cfg0.N, win0_8.index t 0 = t.val / 4 ∧ win0_8.index t 1 = t.val % 4 ∧ win0_8.index t 2 = 0 := by decide +kernel
theorem emb_8 (t : Fin cfg0.N) (y : S1x128x1792.Idx) : ((win0_8.blk t).view.emb y : S5x512x1792.Idx) = ix3 (bOf t) (rowIn (jOf t) (y 1)) (y 2) := by
  have h := index_8 t
  funext a
  apply Fin.ext
  match a with
  | ⟨0, _⟩ =>
    show ((win0_8.blk t).view.emb y 0).val = t.val / 4
    blk_simp
    exact h.1
  | ⟨1, _⟩ =>
    show ((win0_8.blk t).view.emb y 1).val = 128 * (t.val % 4) + (y 1).val
    blk_simp
    rw [h.2.1, Nat.mul_comm]
  | ⟨2, _⟩ =>
    show ((win0_8.blk t).view.emb y 2).val = (y 2).val
    blk_simp
    rw [h.2.2, Nat.zero_mul, Nat.zero_add]

theorem index_9 : ∀ t : Fin cfg0.N, win0_9.index t 0 = t.val / 4 ∧ win0_9.index t 1 = t.val % 4 ∧ win0_9.index t 2 = 0 := by decide +kernel
theorem emb_9 (t : Fin cfg0.N) (y : S1x128x1792.Idx) : ((win0_9.blk t).view.emb y : S5x512x1792.Idx) = ix3 (bOf t) (rowIn (jOf t) (y 1)) (y 2) := by
  have h := index_9 t
  funext a
  apply Fin.ext
  match a with
  | ⟨0, _⟩ =>
    show ((win0_9.blk t).view.emb y 0).val = t.val / 4
    blk_simp
    exact h.1
  | ⟨1, _⟩ =>
    show ((win0_9.blk t).view.emb y 1).val = 128 * (t.val % 4) + (y 1).val
    blk_simp
    rw [h.2.1, Nat.mul_comm]
  | ⟨2, _⟩ =>
    show ((win0_9.blk t).view.emb y 2).val = (y 2).val
    blk_simp
    rw [h.2.2, Nat.zero_mul, Nat.zero_add]

theorem index_10 : ∀ t : Fin cfg0.N, win0_10.index t 0 = t.val / 4 ∧ win0_10.index t 1 = t.val % 4 ∧ win0_10.index t 2 = 0 := by decide +kernel
theorem emb_10 (t : Fin cfg0.N) (y : S1x128x1792.Idx) : ((win0_10.blk t).view.emb y : S5x512x1792.Idx) = ix3 (bOf t) (rowIn (jOf t) (y 1)) (y 2) := by
  have h := index_10 t
  funext a
  apply Fin.ext
  match a with
  | ⟨0, _⟩ =>
    show ((win0_10.blk t).view.emb y 0).val = t.val / 4
    blk_simp
    exact h.1
  | ⟨1, _⟩ =>
    show ((win0_10.blk t).view.emb y 1).val = 128 * (t.val % 4) + (y 1).val
    blk_simp
    rw [h.2.1, Nat.mul_comm]
  | ⟨2, _⟩ =>
    show ((win0_10.blk t).view.emb y 2).val = (y 2).val
    blk_simp
    rw [h.2.2, Nat.zero_mul, Nat.zero_add]

theorem index_11 : ∀ t : Fin cfg0.N, win0_11.index t 0 = t.val / 4 ∧ win0_11.index t 1 = t.val % 4 ∧ win0_11.index t 2 = 0 := by decide +kernel
theorem emb_11 (t : Fin cfg0.N) (y : S1x128x1792.Idx) : ((win0_11.blk t).view.emb y : S5x512x1792.Idx) = ix3 (bOf t) (rowIn (jOf t) (y 1)) (y 2) := by
  have h := index_11 t
  funext a
  apply Fin.ext
  match a with
  | ⟨0, _⟩ =>
    show ((win0_11.blk t).view.emb y 0).val = t.val / 4
    blk_simp
    exact h.1
  | ⟨1, _⟩ =>
    show ((win0_11.blk t).view.emb y 1).val = 128 * (t.val % 4) + (y 1).val
    blk_simp
    rw [h.2.1, Nat.mul_comm]
  | ⟨2, _⟩ =>
    show ((win0_11.blk t).view.emb y 2).val = (y 2).val
    blk_simp
    rw [h.2.2, Nat.zero_mul, Nat.zero_add]

theorem index_12 : ∀ t : Fin cfg0.N, win0_12.index t 0 = t.val / 4 ∧ win0_12.index t 1 = 0 ∧ win0_12.index t 2 = 0 := by decide +kernel
theorem emb_12 (t : Fin cfg0.N) (y : S1x4x14.Idx) : ((win0_12.blk t).view.emb y : S5x4x14.Idx) = ix3 (bOf t) (y 1) (y 2) := by
  have h := index_12 t
  funext a
  apply Fin.ext
  match a with
  | ⟨0, _⟩ =>
    show ((win0_12.blk t).view.emb y 0).val = t.val / 4
    blk_simp
    exact h.1
  | ⟨1, _⟩ =>
    show ((win0_12.blk t).view.emb y 1).val = (y 1).val
    blk_simp
    rw [h.2.1, Nat.zero_mul, Nat.zero_add]
  | ⟨2, _⟩ =>
    show ((win0_12.blk t).view.emb y 2).val = (y 2).val
    blk_simp
    rw [h.2.2, Nat.zero_mul, Nat.zero_add]

theorem index_13 : ∀ t : Fin cfg0.N, win0_13.index t 0 = t.val / 4 ∧ win0_13.index t 1 = 0 ∧ win0_13.index t 2 = t.val % 4 := by decide +kernel
theorem emb_13 (t : Fin cfg0.N) (y : S1x1792x128.Idx) : ((win0_13.blk t).view.emb y : S5x1792x512.Idx) = ix3 (bOf t) (y 1) (rowIn (jOf t) (y 2)) := by
  have h := index_13 t
  funext a
  apply Fin.ext
  match a with
  | ⟨0, _⟩ =>
    show ((win0_13.blk t).view.emb y 0).val = t.val / 4
    blk_simp
    exact h.1
  | ⟨1, _⟩ =>
    show ((win0_13.blk t).view.emb y 1).val = (y 1).val
    blk_simp
    rw [h.2.1, Nat.zero_mul, Nat.zero_add]
  | ⟨2, _⟩ =>
    show ((win0_13.blk t).view.emb y 2).val = 128 * (t.val % 4) + (y 2).val
    blk_simp
    rw [h.2.2, Nat.mul_comm]

/-! ## The arguments at a grid point -/

variable (m : (ℓ : Loc nD τ sig) → Buf (Elt Ideal) ℓ) (c : Dev nD)

theorem index_0 : ∀ t : Fin cfg0.N, win0_0.index t 0 = 0 := by decide +kernel
theorem index_1 : ∀ t : Fin cfg0.N, win0_1.index t 0 = 0 := by decide +kernel

theorem lrAt_eq (t : Fin cfg0.N) : lrAt (grid0.coords t) (iblk m c 0 t) = m ((c : Dev nD), main_arg5) (ix1 (bOf t)) := by
  show V m c main_arg5 ((win0_0.blk t).view.emb ((Rect.unit (s := S5) (k0_off1 (grid0.coords t)) S1.size (k0_off1_inb (grid0.coords t))).emb (Shape.Idx.first (s := S1) (by decide)))) = _
  refine congrArg (m ((c : Dev nD), main_arg5)) (funext fun a => Fin.ext ?_)
  match a with
  | ⟨0, _⟩ =>
    show ((win0_0.blk t).view.emb _ 0).val = t.val / 4
    blk_simp
    rw [index_0 t, off1_eq t, Nat.zero_mul, Nat.zero_add]

theorem stAt_eq (t : Fin cfg0.N) : stAt (grid0.coords t) (iblk m c 1 t) = m ((c : Dev nD), main_arg6) (ix1 (bOf t)) := by
  show V m c main_arg6 ((win0_1.blk t).view.emb ((Rect.unit (s := S5) (k0_off1 (grid0.coords t)) S1.size (k0_off1_inb (grid0.coords t))).emb (Shape.Idx.first (s := S1) (by decide)))) = _
  refine congrArg (m ((c : Dev nD), main_arg6)) (funext fun a => Fin.ext ?_)
  match a with
  | ⟨0, _⟩ =>
    show ((win0_1.blk t).view.emb _ 0).val = t.val / 4
    blk_simp
    rw [index_1 t, off1_eq t, Nat.zero_mul, Nat.zero_add]

theorem iblk_2 (t : Fin cfg0.N) (y : S1x128x1792.Idx) : iblk m c 2 t y = m ((c : Dev nD), main_arg0) (ix3 (bOf t) (rowIn (jOf t) (y 1)) (y 2)) := by
  show V m c main_arg0 ((win0_2.blk t).view.emb y) = _
  rw [emb_2]
  rfl

theorem iblk_3 (t : Fin cfg0.N) (y : S1x128x1792.Idx) : iblk m c 3 t y = m ((c : Dev nD), main_arg1) (ix3 (bOf t) (rowIn (jOf t) (y 1)) (y 2)) := by
  show V m c main_arg1 ((win0_3.blk t).view.emb y) = _
  rw [emb_3]
  rfl

theorem iblk_4 (t : Fin cfg0.N) (y : S1x128x1792.Idx) : iblk m c 4 t y = m ((c : Dev nD), main_arg2) (ix3 (bOf t) (rowIn (jOf t) (y 1)) (y 2)) := by
  show V m c main_arg2 ((win0_4.blk t).view.emb y) = _
  rw [emb_4]
  rfl

theorem iblk_5 (t : Fin cfg0.N) (y : S1x128x1792.Idx) : iblk m c 5 t y = m ((c : Dev nD), main_arg3) (ix3 (bOf t) (rowIn (jOf t) (y 1)) (y 2)) := by
  show V m c main_arg3 ((win0_5.blk t).view.emb y) = _
  rw [emb_5]
  rfl

theorem iblk_6 (t : Fin cfg0.N) (y : S1x128x1792.Idx) : iblk m c 6 t y = m ((c : Dev nD), main_arg4) (ix3 (bOf t) (rowIn (jOf t) (y 1)) (y 2)) := by
  show V m c main_arg4 ((win0_6.blk t).view.emb y) = _
  rw [emb_6]
  rfl

theorem tileOf_apply {e : EltTy} (x : Vec Ideal S1x128x1792 e) (k : Fin 14) (r q : Fin 128) :
    tileOf x k (ix3 (0 : Fin 1) r q) = x (ix3 (0 : Fin 1) r (colIn k q)) := by
  refine congrArg x (funext fun a => Fin.ext ?_)
  match a with
  | ⟨0, _⟩ => rfl
  | ⟨1, _⟩ => show 0 + 1 * r.val = r.val; omega
  | ⟨2, _⟩ => show 128 * k.val + 1 * q.val = 128 * k.val + q.val; omega

theorem tile_2 (t : Fin cfg0.N) (k : Fin 14) (r q : Fin 128) : tileOf (show Vec Ideal S1x128x1792 _ from iblk m c 2 t) k (ix3 (0 : Fin 1) r q)
    = m ((c : Dev nD), main_arg0) (ix3 (bOf t) (rowIn (jOf t) r) (colIn k q)) := by
  rw [tileOf_apply]
  exact iblk_2 m c t _

theorem tile_3 (t : Fin cfg0.N) (k : Fin 14) (r q : Fin 128) : tileOf (show Vec Ideal S1x128x1792 _ from iblk m c 3 t) k (ix3 (0 : Fin 1) r q)
    = m ((c : Dev nD), main_arg1) (ix3 (bOf t) (rowIn (jOf t) r) (colIn k q)) := by
  rw [tileOf_apply]
  exact iblk_3 m c t _

theorem tile_4 (t : Fin cfg0.N) (k : Fin 14) (r q : Fin 128) : tileOf (show Vec Ideal S1x128x1792 _ from iblk m c 4 t) k (ix3 (0 : Fin 1) r q)
    = m ((c : Dev nD), main_arg2) (ix3 (bOf t) (rowIn (jOf t) r) (colIn k q)) := by
  rw [tileOf_apply]
  exact iblk_4 m c t _

theorem tile_5 (t : Fin cfg0.N) (k : Fin 14) (r q : Fin 128) : tileOf (show Vec Ideal S1x128x1792 _ from iblk m c 5 t) k (ix3 (0 : Fin 1) r q)
    = m ((c : Dev nD), main_arg3) (ix3 (bOf t) (rowIn (jOf t) r) (colIn k q)) := by
  rw [tileOf_apply]
  exact iblk_5 m c t _

theorem tile_6 (t : Fin cfg0.N) (k : Fin 14) (r q : Fin 128) : tileOf (show Vec Ideal S1x128x1792 _ from iblk m c 6 t) k (ix3 (0 : Fin 1) r q)
    = m ((c : Dev nD), main_arg4) (ix3 (bOf t) (rowIn (jOf t) r) (colIn k q)) := by
  rw [tileOf_apply]
  exact iblk_6 m c t _

/-- The kernel's exact new weight at an element. -/
def kF (b : Fin 5) (r : Fin 512) (q : Fin 1792) : EReal :=
  kernelExact (m ((c : Dev nD), main_arg5) (ix1 b)) (stepReal (m ((c : Dev nD), main_arg6) (ix1 b))) (m ((c : Dev nD), main_arg0) (ix3 b r q)) (m ((c : Dev nD), main_arg1) (ix3 b r q)) (m ((c : Dev nD), main_arg2) (ix3 b r q)) (m ((c : Dev nD), main_arg3) (ix3 b r q)) (m ((c : Dev nD), main_arg4) (ix3 b r q))

theorem tW_eq (t : Fin cfg0.N) (k : Fin 14) (r q : Fin 128) :
    tW (F := Ideal) (lrAt (grid0.coords t) (iblk m c 0 t)) (stAt (grid0.coords t) (iblk m c 1 t)) (tileOf (iblk m c 2 t) k) (tileOf (iblk m c 3 t) k) (tileOf (iblk m c 4 t) k) (tileOf (iblk m c 5 t) k) (tileOf (iblk m c 6 t) k) (ix2 r q) = kF m c (bOf t) (rowIn (jOf t) r) (colIn k q) := by
  rw [tW_apply, lrAt_eq, stAt_eq, tile_2, tile_3, tile_4, tile_5, tile_6]
  rfl

theorem tExp_eq (t : Fin cfg0.N) (k : Fin 14) :
    tExp (F := Ideal) (lrAt (grid0.coords t) (iblk m c 0 t)) (stAt (grid0.coords t) (iblk m c 1 t)) (tileOf (iblk m c 2 t) k) (tileOf (iblk m c 3 t) k) (tileOf (iblk m c 4 t) k) (tileOf (iblk m c 5 t) k) (tileOf (iblk m c 6 t) k) (ix2 (0 : Fin 1) (0 : Fin 1)) = blockExponent (kF m c) (bOf t) (jOf t) k := by
  rw [tExp_apply, blockExponent, blockOf]
  refine congrArg (fun f => kernelExponent (kernelField (blockMax f * K 0x3B124925#32))) (funext fun r => funext fun q => tW_eq m c t k r q)

/-- A column is in its own block. -/
theorem colIn_colBlock (q : Fin 1792) (h : q.val % 128 < 128) : colIn (colBlock q) ⟨q.val % 128, h⟩ = q :=
  Fin.ext (Nat.div_add_mod q.val 128)

theorem rowBlock_rowIn (j : Fin 4) (r : Fin 128) : rowBlock (rowIn j r) = j := by
  apply Fin.ext
  show (128 * j.val + r.val) / 128 = j.val
  omega

/-- The exact new weight as an array. -/
def kExact (i : S5x512x1792.Idx) : EReal := kF m c (i 0) (i 1) (i 2)
/-- The codes as an array. -/
def kCode (b : Fin 5) (r : Fin 512) (q : Fin 1792) : EReal :=
  codeOf (kF m c b r q) (kernelInverse (blockExponent (kF m c) b (rowBlock r) (colBlock q)))

theorem out7_eq (t : Fin cfg0.N) (y : S1x128x1792.Idx) :
    out7 (F := Ideal) (lrAt (grid0.coords t) (iblk m c 0 t)) (stAt (grid0.coords t) (iblk m c 1 t)) (iblk m c 2 t) (iblk m c 3 t) (iblk m c 4 t) (iblk m c 5 t) (iblk m c 6 t) y = kF m c (bOf t) (rowIn (jOf t) (y 1)) (y 2) := by
  refine ((tNew_apply _ _ _ _ _ _ _ _ _ _).trans (tW_eq m c t _ _ _)).trans ?_
  exact congrArg (kF m c (bOf t) (rowIn (jOf t) (y 1))) (colIn_colBlock (y 2) _)

theorem out8_eq (t : Fin cfg0.N) (y : S1x128x1792.Idx) :
    out8 (F := Ideal) (lrAt (grid0.coords t) (iblk m c 0 t)) (stAt (grid0.coords t) (iblk m c 1 t)) (iblk m c 2 t) (iblk m c 3 t) (iblk m c 4 t) (iblk m c 5 t) (iblk m c 6 t) y = kF m c (bOf t) (rowIn (jOf t) (y 1)) (y 2) - kF m c (bOf t) (rowIn (jOf t) (y 1)) (y 2) := by
  refine ((tComp_apply _ _ _ _ _ _ _ _ _ _).trans (congrArg (fun x : EReal => x - x) (tW_eq m c t _ _ _))).trans ?_
  exact congrArg (fun q => kF m c (bOf t) (rowIn (jOf t) (y 1)) q - kF m c (bOf t) (rowIn (jOf t) (y 1)) q) (colIn_colBlock (y 2) _)

theorem out9_eq (t : Fin cfg0.N) (y : S1x128x1792.Idx) : out9 (F := Ideal) (iblk m c 4 t) (iblk m c 5 t) y
    = mNew (m ((c : Dev nD), main_arg2) (ix3 (bOf t) (rowIn (jOf t) (y 1)) (y 2))) (m ((c : Dev nD), main_arg3) (ix3 (bOf t) (rowIn (jOf t) (y 1)) (y 2))) := by
  refine ((tM_apply _ _ _ _ _).trans (congrArg₂ mNew (tile_4 m c t _ _ _) (tile_5 m c t _ _ _))).trans ?_
  exact congrArg (fun q => mNew (m ((c : Dev nD), main_arg2) (ix3 (bOf t) (rowIn (jOf t) (y 1)) q)) (m ((c : Dev nD), main_arg3) (ix3 (bOf t) (rowIn (jOf t) (y 1)) q))) (colIn_colBlock (y 2) _)

theorem out10_eq (t : Fin cfg0.N) (y : S1x128x1792.Idx) : out10 (F := Ideal) (iblk m c 4 t) (iblk m c 6 t) y
    = vNew (m ((c : Dev nD), main_arg2) (ix3 (bOf t) (rowIn (jOf t) (y 1)) (y 2))) (m ((c : Dev nD), main_arg4) (ix3 (bOf t) (rowIn (jOf t) (y 1)) (y 2))) := by
  refine ((tV_apply _ _ _ _ _).trans (congrArg₂ vNew (tile_4 m c t _ _ _) (tile_6 m c t _ _ _))).trans ?_
  exact congrArg (fun q => vNew (m ((c : Dev nD), main_arg2) (ix3 (bOf t) (rowIn (jOf t) (y 1)) q)) (m ((c : Dev nD), main_arg4) (ix3 (bOf t) (rowIn (jOf t) (y 1)) q))) (colIn_colBlock (y 2) _)

theorem out11_eq (t : Fin cfg0.N) (y : S1x128x1792.Idx) :
    out11 (F := Ideal) (lrAt (grid0.coords t) (iblk m c 0 t)) (stAt (grid0.coords t) (iblk m c 1 t)) (iblk m c 2 t) (iblk m c 3 t) (iblk m c 4 t) (iblk m c 5 t) (iblk m c 6 t) y = kCode m c (bOf t) (rowIn (jOf t) (y 1)) (y 2) := by
  refine ((tCodes_apply _ _ _ _ _ _ _ _ _ _).trans (congrArg₂ (fun a e => codeOf a (kernelInverse e)) (tW_eq m c t _ _ _) (tExp_eq m c t _))).trans ?_
  exact congrArg₂ (fun q j => codeOf (kF m c (bOf t) (rowIn (jOf t) (y 1)) q) (kernelInverse (blockExponent (kF m c) (bOf t) j (colBlock (y 2))))) (colIn_colBlock (y 2) _) (rowBlock_rowIn (jOf t) (y 1)).symm

theorem out13_eq (t : Fin cfg0.N) (y : S1x1792x128.Idx) :
    out13 (F := Ideal) (lrAt (grid0.coords t) (iblk m c 0 t)) (stAt (grid0.coords t) (iblk m c 1 t)) (iblk m c 2 t) (iblk m c 3 t) (iblk m c 4 t) (iblk m c 5 t) (iblk m c 6 t) y = kCode m c (bOf t) (rowIn (jOf t) (y 2)) (y 1) := by
  refine ((tCodesT_apply _ _ _ _ _ _ _ _ _ _).trans (congrArg₂ (fun a e => codeOf a (kernelInverse e)) (tW_eq m c t _ _ _) (tExp_eq m c t _))).trans ?_
  exact congrArg₂ (fun q j => codeOf (kF m c (bOf t) (rowIn (jOf t) (y 2)) q) (kernelInverse (blockExponent (kF m c) (bOf t) j (colBlock (y 1))))) (colIn_colBlock (y 1) _) (rowBlock_rowIn (jOf t) (y 2)).symm

/-- The row of scales once the first `n` are put in. -/
theorem sAcc_eq (t : Fin cfg0.N) (n : ℕ) (hn : n ≤ 14) (k : Fin 14) (hk : k.val < n) (q : Fin 128) (hq : q.val = k.val) :
    sAcc (F := Ideal) (lrAt (grid0.coords t) (iblk m c 0 t)) (stAt (grid0.coords t) (iblk m c 1 t)) (iblk m c 2 t) (iblk m c 3 t) (iblk m c 4 t) (iblk m c 5 t) (iblk m c 6 t) n (ix2 (0 : Fin 1) q) = kernelScale (blockExponent (kF m c) (bOf t) (jOf t) k) := by
  induction n with
  | zero => exact absurd hk (Nat.not_lt_zero _)
  | succ n ih =>
    rw [sAcc, sStep_apply]
    by_cases h : k.val = n
    · have e : IntOp.cmpi .eq (BitVec.ofNat 32 q.val) (BitVec.ofNat 32 n) = 1#1 := by
        rw [hq, h]
        simp [IntOp.cmpi]
      have hf : Fin.ofNat 14 n = k := by
        apply Fin.ext
        show n % 14 = k.val
        rw [Nat.mod_eq_of_lt (by omega), h]
      rw [e, select_one, tExp_eq, hf]
    · have e : IntOp.cmpi .eq (BitVec.ofNat 32 q.val) (BitVec.ofNat 32 n) = 0#1 := by
        have hne : BitVec.ofNat 32 q.val ≠ BitVec.ofNat 32 n := by
          intro hc
          have := congrArg BitVec.toNat hc
          rw [BitVec.toNat_ofNat, BitVec.toNat_ofNat, Nat.mod_eq_of_lt (by omega), Nat.mod_eq_of_lt (by omega)] at this
          omega
        show BitVec.ofBool (BitVec.ofNat 32 q.val == BitVec.ofNat 32 n) = 0#1
        rw [beq_eq_false_iff_ne.mpr hne]
        rfl
      rw [e, select_zero]
      exact ih (by omega) (by omega)

theorem scaleRow_eq (t : Fin cfg0.N) (k : Fin 14) (u v : Fin 1) : scaleRow m c t (ix3 u v k) = kernelScale (blockExponent (kF m c) (bOf t) (jOf t) k) := by
  unfold scaleRow sRow k0_pay2
  rw [shapeCast_apply _ _ (ix3 u v k) (ix2 (0 : Fin 1) k) (by
    rw [Shape.rowMajor_val_three, Shape.rowMajor_val_two]
    have hu : u.val = 0 := by omega
    have hv : v.val = 0 := by omega
    show (0 : ℕ) * 14 + k.val = (u.val * 1 + v.val) * 14 + k.val
    omega)]
  refine Eq.trans (congrArg (sAcc (F := Ideal) (lrAt (grid0.coords t) (iblk m c 0 t)) (stAt (grid0.coords t) (iblk m c 1 t)) (iblk m c 2 t) (iblk m c 3 t) (iblk m c 4 t) (iblk m c 5 t) (iblk m c 6 t) 14) (?_ : _ = ix2 (0 : Fin 1) (⟨k.val, by omega⟩ : Fin 128))) (sAcc_eq m c t 14 le_rfl k k.isLt _ rfl)
  funext a
  apply Fin.ext
  match a with
  | ⟨0, _⟩ => rfl
  | ⟨1, _⟩ => show 0 + k.val = k.val; omega

theorem scaleBlock_eq (t : Fin cfg0.N) (y : S1x4x14.Idx) : scaleBlock m c t y = kernelScale (blockExponent (kF m c) (bOf t) (y 1) (y 2)) := by
  refine (scaleRow_eq m c _ _ _ _).trans ?_
  have h4 : (y 1).val < 4 := (y 1).isLt
  have hb : bOf (rowPoint t (y 1)) = bOf t := by
    apply Fin.ext
    show (4 * (t.val / 4) + (y 1).val) / 4 = t.val / 4
    omega
  have hj : jOf (rowPoint t (y 1)) = y 1 := by
    apply Fin.ext
    show (4 * (t.val / 4) + (y 1).val) % 4 = (y 1).val
    omega
  exact congrArg₂ (fun b j => kernelScale (blockExponent (kF m c) b j (y 2))) hb hj

/-! ## The arrays after the run -/

/-- Result 0 as an array. -/
def res7 : Vec Ideal S5x512x1792 .bf16 := fun i => kF m c (i 0) (i 1) (i 2)
theorem arr_7 : (dats m 0 c).arrAt 7 cfg0.N = res7 m c := by
  refine (dats m 0 c).arrAt_eq_of_covers 7 _ (by decide +kernel) fun t hf y => ?_
  blk_simp
  rw [after_7]
  refine (out7_eq m c t y).trans ?_
  refine Eq.trans ?_ (congrArg (res7 m c) (emb_7 t y).symm)
  rfl

/-- Result 1 as an array. -/
def res8 : Vec Ideal S5x512x1792 .bf16 := fun i => kF m c (i 0) (i 1) (i 2) - kF m c (i 0) (i 1) (i 2)
theorem arr_8 : (dats m 0 c).arrAt 8 cfg0.N = res8 m c := by
  refine (dats m 0 c).arrAt_eq_of_covers 8 _ (by decide +kernel) fun t hf y => ?_
  blk_simp
  rw [after_8]
  refine (out8_eq m c t y).trans ?_
  refine Eq.trans ?_ (congrArg (res8 m c) (emb_8 t y).symm)
  rfl

/-- Result 2 as an array. -/
def res9 : Vec Ideal S5x512x1792 .f32 := fun i => mNew (m ((c : Dev nD), main_arg2) i) (m ((c : Dev nD), main_arg3) i)
theorem arr_9 : (dats m 0 c).arrAt 9 cfg0.N = res9 m c := by
  refine (dats m 0 c).arrAt_eq_of_covers 9 _ (by decide +kernel) fun t hf y => ?_
  blk_simp
  rw [after_9]
  refine (out9_eq m c t y).trans ?_
  refine Eq.trans ?_ (congrArg (res9 m c) (emb_9 t y).symm)
  rfl

/-- Result 3 as an array. -/
def res10 : Vec Ideal S5x512x1792 .f32 := fun i => vNew (m ((c : Dev nD), main_arg2) i) (m ((c : Dev nD), main_arg4) i)
theorem arr_10 : (dats m 0 c).arrAt 10 cfg0.N = res10 m c := by
  refine (dats m 0 c).arrAt_eq_of_covers 10 _ (by decide +kernel) fun t hf y => ?_
  blk_simp
  rw [after_10]
  refine (out10_eq m c t y).trans ?_
  refine Eq.trans ?_ (congrArg (res10 m c) (emb_10 t y).symm)
  rfl

/-- Result 4 as an array. -/
def res11 : Vec Ideal S5x512x1792 .fp8e4m3 := fun i => kCode m c (i 0) (i 1) (i 2)
theorem arr_11 : (dats m 0 c).arrAt 11 cfg0.N = res11 m c := by
  refine (dats m 0 c).arrAt_eq_of_covers 11 _ (by decide +kernel) fun t hf y => ?_
  blk_simp
  rw [after_11]
  refine (out11_eq m c t y).trans ?_
  refine Eq.trans ?_ (congrArg (res11 m c) (emb_11 t y).symm)
  rfl

/-- Result 5 as an array. -/
def res12 : Vec Ideal S5x4x14 .f32 := fun i => kernelScale (blockExponent (kF m c) (i 0) (i 1) (i 2))
theorem arr_12 : (dats m 0 c).arrAt 12 cfg0.N = res12 m c := by
  refine (dats m 0 c).arrAt_eq_of_covers 12 _ (by decide +kernel) fun t hf y => ?_
  blk_simp
  rw [after_12]
  refine (scaleBlock_eq m c t y).trans ?_
  refine Eq.trans ?_ (congrArg (res12 m c) (emb_12 t y).symm)
  rfl

/-- Result 6 as an array. -/
def res13 : Vec Ideal S5x1792x512 .fp8e4m3 := fun i => kCode m c (i 0) (i 2) (i 1)
theorem arr_13 : (dats m 0 c).arrAt 13 cfg0.N = res13 m c := by
  refine (dats m 0 c).arrAt_eq_of_covers 13 _ (by decide +kernel) fun t hf y => ?_
  blk_simp
  rw [after_13]
  refine (out13_eq m c t y).trans ?_
  refine Eq.trans ?_ (congrArg (res13 m c) (emb_13 t y).symm)
  rfl

end Cert.KernelIdeal.Hand

end
-- ==== Proof.ReferenceValue.lean ====
/- What the reference's host operations leave in the arrays it returns, in terms of its arguments. -/
module

public import proofs.«01_k».proof.Proof.Gen.ReferenceIdeal.Value
public import proofs.«01_k».proof.Proof.Model
public import Idealize.ShloMosaic.Lib.StableHlo.RunRead
public import Idealize.ShloMosaic.Lib.ValueIdxCoords
public import Idealize.ShloMosaic.Lib.IdealHost

@[expose] public section

set_option maxRecDepth 16384

noncomputable section

namespace Cert.ReferenceIdeal.Hand

open Cert.ReferenceIdeal Cert.ReferenceIdeal.Gen Cert.Adam
open Idealize.ShloMosaic
open Idealize.ShloMosaic.ValueIdx Idealize.ShloMosaic.TcCoe

variable (m : (ℓ : Loc nD τ sig) → Buf (Elt Ideal) ℓ) (c : Dev nD)

/-- What the operations before the scales' exponents leave. -/
def V1 : Valuation τ sig (Elt Ideal) := StableHlo.after hostOps0 (fun b => m (c, b))

theorem V_eq (b : Ref sig .tc) : V m c b = StableHlo.after (List.flatten [hostOps0_1, hostOps0_2, hostOps0_3, hostOps0_4]) (V1 m c) (Proc.devRef .tc b) := by
  unfold V V1
  rw [List.flatten_cons, StableHlo.after_append]

theorem hostDivf_at {s : Shape} {φ : FTy} (x y : FVec Ideal s φ) (i : s.Idx) : Host.divf x y i = Ideal.div (x i) (y i) := rfl
theorem hostSqrt_at {s : Shape} {φ : FTy} (x : FVec Ideal s φ) (i : s.Idx) : Host.sqrt x i = Ideal.sqrt (x i) := rfl

theorem hostFloor_at {s : Shape} {φ : FTy} (x : FVec Ideal s φ) (i : s.Idx) : Host.floor x i = Ideal.liftRound Int.floor (x i) := rfl
theorem hostLog_at {s : Shape} {φ : FTy} (x : FVec Ideal s φ) (i : s.Idx) : Host.log x i = Ideal.log (x i) := rfl
theorem constant_at {s : Shape} (b : BitVec 32) (i : s.Idx) : constant (F := Ideal) s .f32 b i = K b := rfl

theorem roundKey (X : FVec Ideal S5x4x14 .f32) :
    addf (Host.floor (Host.divf (Host.log (mulf X (broadcastInDim S5x4x14 ![] bcast_S_S5x4x14 (constant S_ .f32 0x3B124925#32))))
      (broadcastInDim S5x4x14 ![] bcast_S_S5x4x14 (Host.log (constant S_ .f32 0x40000000#32))))) (broadcastInDim S5x4x14 ![] bcast_S_S5x4x14 (constant S_ .f32 0x3F800000#32))
    = fun i => Ideal.liftRound Int.floor (Ideal.div (Ideal.log (X i * K 0x3B124925#32)) (Ideal.log (K 0x40000000#32))) + K 0x3F800000#32 := by
  funext i
  rw [addf_apply, hostFloor_at, hostDivf_at, hostLog_at, mulf_apply, broadcastInDim_scalar_apply, broadcastInDim_scalar_apply, broadcastInDim_scalar_apply, hostLog_at, constant_at, constant_at, constant_at]

theorem selectKey (a : IVec S5x4x14 1) (z : IVec S_ 32) (b : FVec Ideal S5x4x14 .f32) :
    select a (broadcastInDim S5x4x14 ![] bcast_S_S5x4x14 (sitofp (F := Ideal) .f32 z)) b = fun i => Scalar.select (a i) (((z ix0).toInt : ℝ) : EReal) (b i) := by
  funext i
  rw [select_apply, broadcastInDim_scalar_apply]
  rfl

theorem V1_v8 : V1 m c (Proc.devRef .tc main_v8) = fun i => mNew (m ((c : Dev nD), main_arg2) i) (m ((c : Dev nD), main_arg3) i) := by
  unfold V1
  after_reads_simp
  rfl

theorem V1_v15 : V1 m c (Proc.devRef .tc main_v15) = fun i => vNew (m ((c : Dev nD), main_arg2) i) (m ((c : Dev nD), main_arg4) i) := by
  unfold V1
  after_reads_simp
  rfl

theorem V1_v44 : V1 m c (Proc.devRef .tc main_v44) = fun (i : S5x512x1792.Idx) => exactOf (m ((c : Dev nD), main_arg5) (ix1 (i 0))) (stepReal (m ((c : Dev nD), main_arg6) (ix1 (i 0)))) (m ((c : Dev nD), main_arg0) i) (m ((c : Dev nD), main_arg1) i) (m ((c : Dev nD), main_arg2) i) (m ((c : Dev nD), main_arg3) i) (m ((c : Dev nD), main_arg4) i) := by
  unfold V1
  after_reads_simp
  funext i
  have e : ∀ (x : S5.Idx → EReal), broadcastInDim S5x512x1792 ![0, 1, 2] bcast_S5x1x1_S5x512x1792_0_1_2 (broadcastInDim S5x1x1 ![0] bcast_S5_S5x1x1_0 x) i = x (ix1 (i 0)) := by
    intro x
    refine congrArg x (funext fun a => ?_)
    match a with
    | ⟨0, _⟩ => rfl
  simp only [subf_apply, mulf_apply, addf_apply, extf_apply, hostDivf_at, hostSqrt_at, e]
  rfl

theorem V1_v45 : V1 m c (Proc.devRef .tc main_v45) = V1 m c (Proc.devRef .tc main_v44) := by
  unfold V1
  after_reads_simp
  generalize (subf _ _ : FVec Ideal S5x512x1792 .f32) = X
  rfl

theorem V1_v49 : V1 m c (Proc.devRef .tc main_v49) = V1 m c (Proc.devRef .tc main_v44) := by
  unfold V1
  after_reads_simp
  generalize (subf _ _ : FVec Ideal S5x512x1792 .f32) = X
  rfl

theorem V1_v48 : V1 m c (Proc.devRef .tc main_v48) = fun (i : S5x512x1792.Idx) => (show EReal from V1 m c (Proc.devRef .tc main_v44) i) - (show EReal from V1 m c (Proc.devRef .tc main_v44) i) := by
  unfold V1
  after_reads_simp
  generalize (subf (mulf _ _) _ : FVec Ideal S5x512x1792 .f32) = X
  rfl

theorem V1_v52 : V1 m c (Proc.devRef .tc main_v52) = Host.reduce (FloatOps.maximumf (F := Ideal) (φ := .f32)) (Host.absf (F := Ideal) (φ := .f32) (shapeCast S5x4x128x14x128 (show FVec Ideal S5x512x1792 .f32 from V1 m c (Proc.devRef .tc main_v44)) shapeCasts_S5x512x1792_S5x4x128x14x128)) (constant (F := Ideal) S_ .f32 0xFF800000#32) reducesTo_S5x4x128x14x128_S5x4x14_d2_4 h_S_ := by
  unfold V1
  after_reads_simp
  generalize (subf _ _ : FVec Ideal S5x512x1792 .f32) = X
  rfl

theorem V1_v61 : V1 m c (Proc.devRef .tc main_v61) = fun (i : S5x4x14.Idx) => Ideal.liftRound Int.floor (Ideal.div (Ideal.log ((show EReal from V1 m c (Proc.devRef .tc main_v52) i) * K 0x3B124925#32)) (Ideal.log (K 0x40000000#32))) + K 0x3F800000#32 := by
  unfold V1
  after_reads_simp
  generalize Host.reduce _ _ _ _ _ = X
  exact roundKey X

theorem V1_v63 : V1 m c (Proc.devRef .tc main_v63) = fun (i : S5x4x14.Idx) => Ideal.cmp .oeq (show EReal from V1 m c (Proc.devRef .tc main_v52) i) (K 0x00000000#32) := by
  unfold V1
  after_reads_simp
  generalize Host.reduce _ _ _ _ _ = X
  rfl

theorem V1_c : V1 m c (Proc.devRef .tc main_c) = constantI S_ 32 0#32 := by
  unfold V1
  after_reads_simp

theorem late (b : Ref sig .tc) (hb : b = main_v8 ∨ b = main_v15 ∨ b = main_v45 ∨ b = main_v48) : V m c b = V1 m c (Proc.devRef .tc b) := by
  rw [V_eq]
  generalize V1 m c = W
  rcases hb with rfl | rfl | rfl | rfl <;> after_reads_simp

/-- The exponents' array, from what the comparison, the rounding and the constant left. -/
def lateExponent (W : Valuation τ sig (Elt Ideal)) : FVec Ideal S5x4x14 .f32 := fun i =>
  Scalar.select (show BitVec 1 from W (Proc.devRef .tc main_v63) i) ((((show BitVec 32 from W (Proc.devRef .tc main_c) ix0).toInt : ℝ)) : EReal) (show EReal from W (Proc.devRef .tc main_v61) i)

/-- The operations from the exponents on. -/
abbrev lateOps : List (HloOp τ sig (Elt Ideal)) := List.flatten [hostOps0_1, hostOps0_2, hostOps0_3, hostOps0_4]

theorem late_v64 (W : Valuation τ sig (Elt Ideal)) : StableHlo.after lateOps W (Proc.devRef .tc main_v64) = lateExponent W := by
  after_reads_simp
  exact selectKey _ _ _

theorem late_v66 (W : Valuation τ sig (Elt Ideal)) : StableHlo.after lateOps W (Proc.devRef .tc main_v66)
    = fun (i : S5x4x14.Idx) => Ideal.pow (K 0x40000000#32) (show EReal from StableHlo.after lateOps W (Proc.devRef .tc main_v64) i) := by
  after_reads_simp
  generalize StableHlo.TRef.toBuf _ (select _ _ _) = Y
  funext i
  refine Eq.trans (b := Ideal.pow (broadcastInDim S5x4x14 ![] bcast_S_S5x4x14 (constant (F := Ideal) S_ .f32 0x40000000#32) i) (show EReal from Y i)) rfl ?_
  rw [broadcastInDim_scalar_apply, constant_at]

/-- The codes by blocks, from the weights and the inverse scales. -/
def lateCodes (x : FVec Ideal S5x512x1792 .f32) (y : FVec Ideal S5x4x14 .f32) : FVec Ideal S5x4x128x14x128 .f32 := fun i =>
  codeOf (shapeCast S5x4x128x14x128 x shapeCasts_S5x512x1792_S5x4x128x14x128 i)
    (broadcastInDim S5x4x128x14x128 ![0, 1, 2, 3, 4] bcast_S5x4x1x14x1_S5x4x128x14x128_0_1_2_3_4 (broadcastInDim S5x4x1x14x1 ![0, 1, 3] bcast_S5x4x14_S5x4x1x14x1_0_1_3 y) i)

theorem late_v69 (W : Valuation τ sig (Elt Ideal)) : StableHlo.after lateOps W (Proc.devRef .tc main_v69)
    = fun (i : S5x4x14.Idx) => Ideal.pow (K 0x40000000#32) (-(show EReal from StableHlo.after lateOps W (Proc.devRef .tc main_v64) i)) := by
  after_reads_simp
  generalize StableHlo.TRef.toBuf _ (select _ _ _) = Y
  funext i
  refine Eq.trans (b := Ideal.pow (broadcastInDim S5x4x14 ![] bcast_S_S5x4x14 (constant (F := Ideal) S_ .f32 0x40000000#32) i) (-(show EReal from Y i))) rfl ?_
  rw [broadcastInDim_scalar_apply, constant_at]

theorem late_v75 (W : Valuation τ sig (Elt Ideal)) : StableHlo.after lateOps W (Proc.devRef .tc main_v75)
    = shapeCast S5x512x1792 (lateCodes (show FVec Ideal S5x512x1792 .f32 from W (Proc.devRef .tc main_v49)) (show FVec Ideal S5x4x14 .f32 from StableHlo.after lateOps W (Proc.devRef .tc main_v69))) shapeCasts_S5x4x128x14x128_S5x512x1792 := by
  after_reads_simp
  generalize (Host.powf _ _ : FVec Ideal S5x4x14 .f32) = Y
  refine congrArg (fun x => shapeCast S5x512x1792 x shapeCasts_S5x4x128x14x128_S5x512x1792) (funext fun i => ?_)
  refine Eq.trans (b := min (broadcastInDim S5x4x128x14x128 ![] bcast_S_S5x4x128x14x128 (constant (F := Ideal) S_ .f32 0x43E00000#32) i)
    (max (broadcastInDim S5x4x128x14x128 ![] bcast_S_S5x4x128x14x128 (constant (F := Ideal) S_ .f32 0xC3E00000#32) i)
      (shapeCast S5x4x128x14x128 (show FVec Ideal S5x512x1792 .f32 from W (Proc.devRef .tc main_v49)) shapeCasts_S5x512x1792_S5x4x128x14x128 i * broadcastInDim S5x4x128x14x128 ![0, 1, 2, 3, 4] bcast_S5x4x1x14x1_S5x4x128x14x128_0_1_2_3_4 (broadcastInDim S5x4x1x14x1 ![0, 1, 3] bcast_S5x4x14_S5x4x1x14x1_0_1_3 Y) i))) rfl ?_
  rw [broadcastInDim_scalar_apply, broadcastInDim_scalar_apply, constant_at, constant_at]
  rfl

theorem late_v76 (W : Valuation τ sig (Elt Ideal)) : StableHlo.after lateOps W (Proc.devRef .tc main_v76)
    = transpose S5x1792x512 [0, 2, 1] (show Vec Ideal S5x512x1792 .f32 from StableHlo.after lateOps W (Proc.devRef .tc main_v75)) transposes_S5x512x1792_S5x1792x512_0_2_1 := by
  after_reads_simp

end Cert.ReferenceIdeal.Hand

end
-- ==== Proof.Blocks.lean ====
/- A 5 x 512 x 1792 array cut into blocks of 128 by 128: the elements of a block, and the largest absolute value in it. -/
module

public import proofs.«01_k».proof.Proof.Model
public import Idealize.ShloMosaic.Lib.ValueIdxCoords
public import Idealize.ShloMosaic.Lib.ValueLayout
public import Idealize.ShloMosaic.Lib.Pointwise.Reduce

@[expose] public section

set_option maxRecDepth 16384

noncomputable section

namespace Cert.Adam

open Idealize.ShloMosaic hiding ix1 ix2 ix3 ix4 ix5
open Idealize.ShloMosaic.ValueIdx

/-- The array's shape. -/
abbrev Whole : Shape := ⟨3, ![5, 512, 1792]⟩
/-- The shape cut into blocks. -/
abbrev Cut : Shape := ⟨5, ![5, 4, 128, 14, 128]⟩
/-- One number for each block. -/
abbrev PerBlock : Shape := ⟨3, ![5, 4, 14]⟩

theorem eta3 {a b d : ℕ} (i : (⟨3, ![a, b, d]⟩ : Shape).Idx) : ix3 (i 0) (i 1) (i 2) = i := by
  funext x
  match x with
  | ⟨0, _⟩ => rfl
  | ⟨1, _⟩ => rfl
  | ⟨2, _⟩ => rfl

/-- The row of a row block. -/
def rowRest (r : Fin 512) : Fin 128 := ⟨r.val % 128, Nat.mod_lt _ (by decide)⟩
/-- The column of a column block. -/
def colRest (q : Fin 1792) : Fin 128 := ⟨q.val % 128, Nat.mod_lt _ (by decide)⟩

theorem rowIn_rest (r : Fin 512) : rowIn (rowBlock r) (rowRest r) = r := Fin.ext (Nat.div_add_mod r.val 128)
theorem colIn_rest (q : Fin 1792) : colIn (colBlock q) (colRest q) = q := Fin.ext (Nat.div_add_mod q.val 128)

/-- The cut array at an element of a block. -/
theorem cut_apply {α : Type} (x : Whole.Idx → α) (h : Whole.ShapeCasts Cut) (b : Fin 5) (j : Fin 4) (r : Fin 128) (k : Fin 14) (q : Fin 128) :
    shapeCast Cut x h (ix5 b j r k q) = x (ix3 b (rowIn j r) (colIn k q)) := by
  refine shapeCast_apply x h _ _ ?_
  rw [Shape.rowMajor_val_three, Shape.rowMajor_val_five]
  show (b.val * 512 + (128 * j.val + r.val)) * 1792 + (128 * k.val + q.val) = (((b.val * 4 + j.val) * 128 + r.val) * 14 + k.val) * 128 + q.val
  ring

/-- The array put together again, at an element. -/
theorem joined_apply {α : Type} (x : Cut.Idx → α) (h : Cut.ShapeCasts Whole) (b : Fin 5) (r : Fin 512) (q : Fin 1792) :
    shapeCast Whole x h (ix3 b r q) = x (ix5 b (rowBlock r) (rowRest r) (colBlock q) (colRest q)) := by
  refine shapeCast_apply x h _ _ ?_
  rw [Shape.rowMajor_val_three, Shape.rowMajor_val_five]
  show (((b.val * 4 + r.val / 128) * 128 + r.val % 128) * 14 + q.val / 128) * 128 + q.val % 128 = (b.val * 512 + r.val) * 1792 + q.val
  omega

/-- The pattern of minus infinity. -/
theorem K_neg_inf : K 0xFF800000#32 = ⊥ := by
  show Ideal.ieee 8 23 (0xFF800000#32) = ⊥
  simp [Ideal.ieee]

/-- The maximum over a block's elements, as the host takes it. -/
theorem reduce_apply (x : FVec Ideal Cut .f32) (h : Cut.ReducesTo [2, 4] PerBlock) (hu : 0 < (⟨0, ![]⟩ : Shape).numel) (b : Fin 5) (j : Fin 4) (k : Fin 14) :
    Host.reduce (FloatOps.maximumf (F := Ideal) (φ := .f32)) x (constant (F := Ideal) ⟨0, ![]⟩ .f32 0xFF800000#32) h hu (ix3 b j k)
    = Finset.univ.sup fun p : Fin 128 × Fin 128 => (show EReal from x (ix5 b j p.1 k p.2)) := by
  refine (Host.reduce_eq_fold (max : EReal → EReal → EReal) x (constant (F := Ideal) ⟨0, ![]⟩ .f32 0xFF800000#32) h hu (ix3 b j k)).trans ?_
  refine (Finset.fold_filter_eq_fold_of_fiber (max : EReal → EReal → EReal) _ (fun p : Fin 128 × Fin 128 => (ix5 b j p.1 k p.2 : Cut.Idx)) ?_ ?_ _ x).trans ?_
  · rintro ⟨r, q⟩ ⟨r', q'⟩ e
    exact Prod.ext (congrFun e 2) (congrFun e 4)
  · intro i
    constructor
    · intro e
      refine ⟨(i 2, i 4), ?_⟩
      funext a
      apply Fin.ext
      match a with
      | ⟨0, _⟩ => exact (congrArg Fin.val (congrFun e 0)).symm
      | ⟨1, _⟩ => exact (congrArg Fin.val (congrFun e 1)).symm
      | ⟨2, _⟩ => rfl
      | ⟨3, _⟩ => exact (congrArg Fin.val (congrFun e 2)).symm
      | ⟨4, _⟩ => rfl
    · rintro ⟨p, rfl⟩
      funext a
      match a with
      | ⟨0, _⟩ => rfl
      | ⟨1, _⟩ => rfl
      | ⟨2, _⟩ => rfl
  · show (Finset.univ : Finset (Fin 128 × Fin 128)).fold max (K 0xFF800000#32) _ = _
    rw [K_neg_inf]
    rfl

/-- The largest absolute value of a block, as the host takes it. -/
theorem blockMax_host (x : FVec Ideal Whole .f32) (f : Fin 5 → Fin 512 → Fin 1792 → EReal) (hf : ∀ i : Whole.Idx, x i = f (i 0) (i 1) (i 2))
    (hc : Whole.ShapeCasts Cut) (h : Cut.ReducesTo [2, 4] PerBlock) (hu : 0 < (⟨0, ![]⟩ : Shape).numel) (b : Fin 5) (j : Fin 4) (k : Fin 14) :
    Host.reduce (FloatOps.maximumf (F := Ideal) (φ := .f32)) (Host.absf (F := Ideal) (φ := .f32) (shapeCast Cut x hc)) (constant (F := Ideal) ⟨0, ![]⟩ .f32 0xFF800000#32) h hu (ix3 b j k)
    = blockOf f b j k := by
  rw [reduce_apply, blockOf, blockMax]
  refine Finset.sup_congr rfl fun p _ => ?_
  show max (shapeCast Cut x hc (ix5 b j p.1 k p.2)) (-(show EReal from shapeCast Cut x hc (ix5 b j p.1 k p.2))) = _
  rw [cut_apply, hf]

end Cert.Adam

end
-- ==== Proof.ReferenceArrays.lean ====
/- The arrays the reference returns, element by element, in terms of its arguments. -/
module

public import proofs.«01_k».proof.Proof.ReferenceValue
public import proofs.«01_k».proof.Proof.Blocks
public import Idealize.ShloMosaic.Lib.Pipeline.ValueKit

@[expose] public section

set_option maxRecDepth 16384

noncomputable section

namespace Cert.ReferenceIdeal.Hand

open Cert.ReferenceIdeal Cert.ReferenceIdeal.Gen Cert.Adam
open Idealize.ShloMosaic hiding ix1 ix2 ix3 ix4 ix5
open Idealize.ShloMosaic.ValueIdx Idealize.ShloMosaic.TcCoe

variable (m : (ℓ : Loc nD τ sig) → Buf (Elt Ideal) ℓ) (c : Dev nD)

/-- The new weight at an element, before its casts. -/
def rF (b : Fin 5) (r : Fin 512) (q : Fin 1792) : EReal :=
  exactOf (m ((c : Dev nD), main_arg5) (ix1 b)) (stepReal (m ((c : Dev nD), main_arg6) (ix1 b))) (m ((c : Dev nD), main_arg0) (ix3 b r q)) (m ((c : Dev nD), main_arg1) (ix3 b r q))
    (m ((c : Dev nD), main_arg2) (ix3 b r q)) (m ((c : Dev nD), main_arg3) (ix3 b r q)) (m ((c : Dev nD), main_arg4) (ix3 b r q))

theorem V1_v44_at (i : S5x512x1792.Idx) : V1 m c (Proc.devRef .tc main_v44) i = rF m c (i 0) (i 1) (i 2) := by
  rw [V1_v44]
  exact congrArg (fun j : S5x512x1792.Idx => exactOf (m ((c : Dev nD), main_arg5) (ix1 (i 0))) (stepReal (m ((c : Dev nD), main_arg6) (ix1 (i 0)))) (m ((c : Dev nD), main_arg0) j) (m ((c : Dev nD), main_arg1) j)
    (m ((c : Dev nD), main_arg2) j) (m ((c : Dev nD), main_arg3) j) (m ((c : Dev nD), main_arg4) j)) (eta3 i).symm

theorem V1_v52_at (i : S5x4x14.Idx) : V1 m c (Proc.devRef .tc main_v52) i = blockOf (rF m c) (i 0) (i 1) (i 2) := by
  rw [V1_v52]
  refine Eq.trans ?_ (blockMax_host (show FVec Ideal S5x512x1792 .f32 from V1 m c (Proc.devRef .tc main_v44)) (rF m c) (V1_v44_at m c) shapeCasts_S5x512x1792_S5x4x128x14x128 reducesTo_S5x4x128x14x128_S5x4x14_d2_4 h_S_ (i 0) (i 1) (i 2))
  exact congrArg _ (eta3 i).symm

theorem lateExponent_at (i : S5x4x14.Idx) : lateExponent (V1 m c) i = exponentOf (blockOf (rF m c) (i 0) (i 1) (i 2)) := by
  unfold lateExponent exponentOf
  rw [V1_v63, V1_v61, V1_c]
  dsimp only
  rw [V1_v52_at]
  refine congrArg (fun z : EReal => Scalar.select (Ideal.cmp .oeq (blockOf (rF m c) (i 0) (i 1) (i 2)) (K 0x00000000#32)) z _) ?_
  show (((0#32 : BitVec 32).toInt : ℝ) : EReal) = 0
  simp

/-- The code of an element. -/
def rCode (b : Fin 5) (r : Fin 512) (q : Fin 1792) : EReal := codeOf (rF m c b r q) (inverseOf (blockOf (rF m c) b (rowBlock r) (colBlock q)))

theorem V_v45 : V m c main_v45 = fun i : S5x512x1792.Idx => rF m c (i 0) (i 1) (i 2) := by
  rw [late m c main_v45 (Or.inr (Or.inr (Or.inl rfl))), V1_v45]
  exact funext (V1_v44_at m c)

theorem V_v48 : V m c main_v48 = fun i : S5x512x1792.Idx => rF m c (i 0) (i 1) (i 2) - rF m c (i 0) (i 1) (i 2) := by
  rw [late m c main_v48 (Or.inr (Or.inr (Or.inr rfl))), V1_v48]
  funext i
  rw [V1_v44_at]

theorem V_v8 : V m c main_v8 = fun i => mNew (m ((c : Dev nD), main_arg2) i) (m ((c : Dev nD), main_arg3) i) := by
  rw [late m c main_v8 (Or.inl rfl), V1_v8]

theorem V_v15 : V m c main_v15 = fun i => vNew (m ((c : Dev nD), main_arg2) i) (m ((c : Dev nD), main_arg4) i) := by
  rw [late m c main_v15 (Or.inr (Or.inl rfl)), V1_v15]

theorem V_v66 : V m c main_v66 = fun i : S5x4x14.Idx => scaleOf (blockOf (rF m c) (i 0) (i 1) (i 2)) := by
  rw [V_eq, late_v66]
  funext i
  rw [late_v64, lateExponent_at]
  rfl

theorem inverse_at (i : S5x4x14.Idx) : StableHlo.after lateOps (V1 m c) (Proc.devRef .tc main_v69) i = inverseOf (blockOf (rF m c) (i 0) (i 1) (i 2)) := by
  rw [late_v69, late_v64]
  dsimp only
  rw [lateExponent_at]
  rfl

theorem lateCodes_at (x : FVec Ideal S5x512x1792 .f32) (y : FVec Ideal S5x4x14 .f32) (b : Fin 5) (r : Fin 512) (q : Fin 1792) :
    shapeCast S5x512x1792 (lateCodes x y) shapeCasts_S5x4x128x14x128_S5x512x1792 (ix3 b r q) = codeOf (x (ix3 b r q)) (y (ix3 b (rowBlock r) (colBlock q))) := by
  refine (joined_apply (lateCodes x y) _ b r q).trans ?_
  unfold lateCodes
  rw [show shapeCast S5x4x128x14x128 x shapeCasts_S5x512x1792_S5x4x128x14x128 (ix5 b (rowBlock r) (rowRest r) (colBlock q) (colRest q)) = x (ix3 b r q) from
    (cut_apply x _ b (rowBlock r) (rowRest r) (colBlock q) (colRest q)).trans (by rw [rowIn_rest, colIn_rest])]
  refine congrArg (fun z => codeOf (x (ix3 b r q)) (y z)) (funext fun a => ?_)
  match a with
  | ⟨0, _⟩ => rfl
  | ⟨1, _⟩ => rfl
  | ⟨2, _⟩ => rfl

theorem v75_at (b : Fin 5) (r : Fin 512) (q : Fin 1792) : StableHlo.after lateOps (V1 m c) (Proc.devRef .tc main_v75) (ix3 b r q) = rCode m c b r q := by
  rw [late_v75]
  refine (lateCodes_at _ _ b r q).trans ?_
  rw [V1_v49]
  refine congrArg₂ codeOf (V1_v44_at m c (ix3 b r q)) (inverse_at m c (ix3 b (rowBlock r) (colBlock q)))

theorem V_v75 : V m c main_v75 = fun i : S5x512x1792.Idx => rCode m c (i 0) (i 1) (i 2) := by
  rw [V_eq]
  funext i
  refine Eq.trans ?_ (v75_at m c (i 0) (i 1) (i 2))
  exact congrArg _ (eta3 i).symm

theorem V_v76 : V m c main_v76 = fun i : S5x1792x512.Idx => rCode m c (i 0) (i 2) (i 1) := by
  rw [V_eq, late_v76]
  funext i
  refine Eq.trans ?_ (v75_at m c (i 0) (i 2) (i 1))
  refine Eq.trans ?_ (transpose_ix3_021_apply (StableHlo.after lateOps (V1 m c) (Proc.devRef .tc main_v75) : Vec Ideal S5x512x1792 .f32) transposes_S5x512x1792_S5x1792x512_0_2_1 (i 0) (i 1) (i 2))
  exact congrArg _ (eta3 i).symm

theorem index_0 : ∀ t : Fin cfg0.N, win0_0.index t 0 = 0 ∧ win0_0.index t 1 = 0 ∧ win0_0.index t 2 = 0 := by decide +kernel
theorem index_1 : ∀ t : Fin cfg0.N, win0_1.index t 0 = 0 ∧ win0_1.index t 1 = 0 ∧ win0_1.index t 2 = 0 := by decide +kernel
theorem index_2 : ∀ t : Fin cfg0.N, win0_2.index t 0 = 0 ∧ win0_2.index t 1 = 0 ∧ win0_2.index t 2 = 0 := by decide +kernel
theorem index_3 : ∀ t : Fin cfg0.N, win0_3.index t 0 = 0 ∧ win0_3.index t 1 = 0 ∧ win0_3.index t 2 = 0 := by decide +kernel

theorem emb_0 (t : Fin cfg0.N) (y : S5x512x1792.Idx) : ((win0_0.blk t).view.emb y : S5x512x1792.Idx) = y := by
  have h := index_0 t
  funext a
  apply Fin.ext
  match a with
  | ⟨0, _⟩ =>
    show ((win0_0.blk t).view.emb y 0).val = (y 0).val
    blk_simp
    rw [h.1]; omega
  | ⟨1, _⟩ =>
    show ((win0_0.blk t).view.emb y 1).val = (y 1).val
    blk_simp
    rw [h.2.1]; omega
  | ⟨2, _⟩ =>
    show ((win0_0.blk t).view.emb y 2).val = (y 2).val
    blk_simp
    rw [h.2.2]; omega

theorem emb_2 (t : Fin cfg0.N) (y : S5x512x1792.Idx) : ((win0_2.blk t).view.emb y : S5x512x1792.Idx) = y := by
  have h := index_2 t
  funext a
  apply Fin.ext
  match a with
  | ⟨0, _⟩ =>
    show ((win0_2.blk t).view.emb y 0).val = (y 0).val
    blk_simp
    rw [h.1]; omega
  | ⟨1, _⟩ =>
    show ((win0_2.blk t).view.emb y 1).val = (y 1).val
    blk_simp
    rw [h.2.1]; omega
  | ⟨2, _⟩ =>
    show ((win0_2.blk t).view.emb y 2).val = (y 2).val
    blk_simp
    rw [h.2.2]; omega

theorem emb_1 (t : Fin cfg0.N) (y : S5x1792x512.Idx) : ((win0_1.blk t).view.emb y : S5x1792x512.Idx) = y := by
  have h := index_1 t
  funext a
  apply Fin.ext
  match a with
  | ⟨0, _⟩ =>
    show ((win0_1.blk t).view.emb y 0).val = (y 0).val
    blk_simp
    rw [h.1]; omega
  | ⟨1, _⟩ =>
    show ((win0_1.blk t).view.emb y 1).val = (y 1).val
    blk_simp
    rw [h.2.1]; omega
  | ⟨2, _⟩ =>
    show ((win0_1.blk t).view.emb y 2).val = (y 2).val
    blk_simp
    rw [h.2.2]; omega

theorem emb_3 (t : Fin cfg0.N) (y : S5x1792x512.Idx) : ((win0_3.blk t).view.emb y : S5x1792x512.Idx) = y := by
  have h := index_3 t
  funext a
  apply Fin.ext
  match a with
  | ⟨0, _⟩ =>
    show ((win0_3.blk t).view.emb y 0).val = (y 0).val
    blk_simp
    rw [h.1]; omega
  | ⟨1, _⟩ =>
    show ((win0_3.blk t).view.emb y 1).val = (y 1).val
    blk_simp
    rw [h.2.1]; omega
  | ⟨2, _⟩ =>
    show ((win0_3.blk t).view.emb y 2).val = (y 2).val
    blk_simp
    rw [h.2.2]; omega

theorem iblk_0 (t : Fin cfg0.N) (y : S5x512x1792.Idx) : iblk m c 0 t y = V m c main_v75 y :=
  congrArg (V m c main_v75) (emb_0 t y)
theorem iblk_1 (t : Fin cfg0.N) (y : S5x1792x512.Idx) : iblk m c 1 t y = V m c main_v76 y :=
  congrArg (V m c main_v76) (emb_1 t y)

theorem r0_idx (y : S5x512x1792.Idx) : r0_0.idx y = y := by
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
theorem r1_idx (y : S5x1792x512.Idx) : r0_1.idx y = y := by
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem codes_block (t : Fin cfg0.N) (y : S5x512x1792.Idx) : Value.E2 (F := Ideal) (View.ld (iblk m c 0 t) r0_0) y = rCode m c (y 0) (y 1) (y 2) := by
  have e : Value.ix2_0 y = y := by
    funext a
    match a with
    | ⟨0, _⟩ => rfl
    | ⟨1, _⟩ => rfl
    | ⟨2, _⟩ => rfl
  refine Eq.trans (b := iblk m c 0 t (r0_0.idx (Value.ix2_0 y))) rfl ?_
  rw [e]
  refine (congrArg (iblk m c 0 t) (r0_idx y)).trans ?_
  rw [iblk_0, V_v75]

theorem turned_block (t : Fin cfg0.N) (y : S5x1792x512.Idx) : Value.E3 (F := Ideal) (View.ld (iblk m c 1 t) r0_1) y = rCode m c (y 0) (y 2) (y 1) := by
  have e : Value.ix3_0 y = y := by
    funext a
    match a with
    | ⟨0, _⟩ => rfl
    | ⟨1, _⟩ => rfl
    | ⟨2, _⟩ => rfl
  refine Eq.trans (b := iblk m c 1 t (r0_1.idx (Value.ix3_0 y))) rfl ?_
  rw [e]
  refine (congrArg (iblk m c 1 t) (r1_idx y)).trans ?_
  rw [iblk_1, V_v76]

/-- The codes as an array. -/
theorem arr_2 : (dats m 0 c).arrAt 2 cfg0.N = fun i : S5x512x1792.Idx => rCode m c (i 0) (i 1) (i 2) := by
  refine (dats m 0 c).arrAt_eq_of_covers 2 _ (by decide +kernel) fun t hf y => ?_
  blk_simp
  rw [after0_2]
  refine (Value.canon2_eq _ y).trans ?_
  refine (codes_block m c t y).trans ?_
  refine Eq.trans ?_ (congrArg (fun i : S5x512x1792.Idx => rCode m c (i 0) (i 1) (i 2)) (emb_2 t y).symm)
  rfl

/-- The transposed codes as an array. -/
theorem arr_3 : (dats m 0 c).arrAt 3 cfg0.N = fun i : S5x1792x512.Idx => rCode m c (i 0) (i 2) (i 1) := by
  refine (dats m 0 c).arrAt_eq_of_covers 3 _ (by decide +kernel) fun t hf y => ?_
  blk_simp
  rw [after0_3]
  refine (Value.canon3_eq _ y).trans ?_
  refine (turned_block m c t y).trans ?_
  refine Eq.trans ?_ (congrArg (fun i : S5x1792x512.Idx => rCode m c (i 0) (i 2) (i 1)) (emb_3 t y).symm)
  rfl

end Cert.ReferenceIdeal.Hand

end
-- ==== Proof.Precondition.lean ====
/- What the precondition says of each element, each block and each step. -/
module

public import proofs.«01_k».proof.Proof.Blocks
public import proofs.«01_k».proof.Pre_in_range
public import Idealize.ShloMosaic.Lib.ReduceAll
public import Idealize.ShloMosaic.Lib.IdealHost
public import Idealize.ShloMosaic.Lib.Pointwise.Select
public import Idealize.ShloMosaic.Lib.Pointwise.ElementwiseCore

@[expose] public section

set_option maxRecDepth 16384

noncomputable section

namespace Cert.Pre_in_range.Hand

open Cert.Pre_in_range Cert.Pre_in_range.Facts Cert.Adam
open Idealize.ShloMosaic hiding ix0 ix1 ix2 ix3 ix4 ix5
open Idealize.ShloMosaic.ValueIdx

variable [Facts]

instance : Subsingleton S_.Idx := ⟨fun x y => funext fun a => a.elim0⟩

theorem bit_or {x y : BitVec 1} (h : IntOp.ori x y = 1#1) : x = 1#1 ∨ y = 1#1 := by
  revert x y; decide
theorem bit_and {x y : BitVec 1} (h : IntOp.andi x y = 1#1) : x = 1#1 ∧ y = 1#1 := by
  revert x y; decide

theorem hostDivf_at {s : Shape} {φ : FTy} (x y : FVec Ideal s φ) (i : s.Idx) : Host.divf x y i = Ideal.div (x i) (y i) := rfl
theorem hostSqrt_at {s : Shape} {φ : FTy} (x : FVec Ideal s φ) (i : s.Idx) : Host.sqrt x i = Ideal.sqrt (x i) := rfl

theorem constant_at {s : Shape} (b : BitVec 32) (i : s.Idx) : constant (F := Ideal) s .f32 b i = K b := rfl
theorem cmpf_at {s : Shape} (p : CmpFPredicate) (x y : FVec Ideal s .f32) (i : s.Idx) : cmpf p x y i = Ideal.cmp p (x i) (y i) := rfl
theorem cmpi_at {s : Shape} (p : CmpIPredicate) (x y : IVec s 32) (i : s.Idx) : cmpi p x y i = IntOp.cmpi p (x i) (y i) := rfl

variable (a0 a1 a2 : FVec Ideal S5x512x1792 .bf16) (a3 a4 : FVec Ideal S5x512x1792 .f32) (a5 : FVec Ideal S5 .f32) (a6 : IVec S5 32)

/-- The reference's new weight at an element. -/
def weight (b : Fin 5) (r : Fin 512) (q : Fin 1792) : EReal :=
  exactOf (a5 (ix1 b)) (stepReal (a6 (ix1 b))) (a0 (ix3 b r q)) (a1 (ix3 b r q)) (a2 (ix3 b r q)) (a3 (ix3 b r q)) (a4 (ix3 b r q))

theorem fn_eq : ∃ (V W : FVec Ideal S5x512x1792 .f32), (∀ i, V i = vNew (a2 i) (a4 i)) ∧ (∀ i : S5x512x1792.Idx, W i = weight a0 a1 a2 a3 a4 a5 a6 (i 0) (i 1) (i 2))
    ∧ fn (F := Ideal) a0 a1 a2 a3 a4 a5 a6 = fn_part3 (F := Ideal) a6
      (mulf (Host.reduce (FloatOps.maximumf (F := Ideal) (φ := .f32)) (Host.absf (F := Ideal) (φ := .f32) (shapeCast S5x4x128x14x128 W shapeCasts_S5x512x1792_S5x4x128x14x128)) (constant (F := Ideal) S_ .f32 0xFF800000#32) reducesTo_S5x4x128x14x128_S5x4x14_d2_4 h_S_)
        (broadcastInDim S5x4x14 ![] bcast_S_S5x4x14 (constant S_ .f32 0x3B124925#32)))
      (cmpf .oeq V (broadcastInDim S5x512x1792 ![] bcast_S_S5x512x1792 (constant S_ .f32 0x00000000#32)))
      (cmpf .oge V (broadcastInDim S5x512x1792 ![] bcast_S_S5x512x1792 (constant S_ .f32 0x00800000#32)))
      (cmpf .ole V (broadcastInDim S5x512x1792 ![] bcast_S_S5x512x1792 (constant S_ .f32 0x7F7FFFFF#32))) := by
  unfold fn fn_part1 fn_part2
  dsimp only
  refine ⟨_, _, ?hV, ?hW, rfl⟩
  case hV => intro i; rfl
  case hW =>
    intro i
    have e : ∀ (x : S5.Idx → EReal), broadcastInDim S5x512x1792 ![0, 1, 2] bcast_S5x1x1_S5x512x1792_0_1_2 (broadcastInDim S5x1x1 ![0] bcast_S5_S5x1x1_0 x) i = x (ix1 (i 0)) := by
      intro x
      refine congrArg x (funext fun a => ?_)
      match a with
      | ⟨0, _⟩ => rfl
    unfold weight
    refine Eq.trans ?_ (congrArg (fun j : S5x512x1792.Idx => exactOf (a5 (ix1 (i 0))) (stepReal (a6 (ix1 (i 0)))) (a0 j) (a1 j) (a2 j) (a3 j) (a4 j)) (eta3 i).symm)
    simp only [ValueIdx.subf_apply, ValueIdx.mulf_apply, ValueIdx.addf_apply, ValueIdx.extf_apply, hostDivf_at, hostSqrt_at, e]
    rfl

theorem fn_says (h1 : (fn (F := Ideal) a0 a1 a2 a3 a4 a5 a6).1 = fun _ => 1#1) (h2 : (fn (F := Ideal) a0 a1 a2 a3 a4 a5 a6).2.1 = fun _ => 1#1) (h3 : (fn (F := Ideal) a0 a1 a2 a3 a4 a5 a6).2.2 = fun _ => 1#1) :
    (∀ i, vNew (a2 i) (a4 i) = 0 ∨ K 0x00800000#32 ≤ vNew (a2 i) (a4 i) ∧ vNew (a2 i) (a4 i) ≤ K 0x7F7FFFFF#32)
    ∧ (∀ b j k, blockOf (weight a0 a1 a2 a3 a4 a5 a6) b j k * K 0x3B124925#32 = 0
        ∨ K 0x00800000#32 ≤ blockOf (weight a0 a1 a2 a3 a4 a5 a6) b j k * K 0x3B124925#32 ∧ blockOf (weight a0 a1 a2 a3 a4 a5 a6) b j k * K 0x3B124925#32 < K 0x7E800000#32)
    ∧ ∀ b : Fin 5, (a6 (ix1 b)).toInt ≠ 0 := by
  obtain ⟨V, W, hV, hW, e⟩ := fn_eq a0 a1 a2 a3 a4 a5 a6
  rw [e] at h1 h2 h3
  unfold fn_part3 at h1 h2 h3
  dsimp only at h1 h2 h3
  have k0 : K 0x00000000#32 = 0 := by
    show Ideal.ieee 8 23 (0x00000000#32) = 0
    simp [Ideal.ieee]
  refine ⟨fun i => ?_, fun b j k => ?_, fun b => ?_⟩
  · have h := Host.reduce_andi_all _ _ _ _ ix0 (congrFun h1 ix0) i
    rw [ori_apply, andi_apply, cmpf_at, cmpf_at, cmpf_at, broadcastInDim_scalar_apply, broadcastInDim_scalar_apply, broadcastInDim_scalar_apply, constant_at, constant_at, constant_at] at h
    rw [hV i, k0] at h
    rcases bit_or h with h | h
    · exact Or.inl ((Ideal.cmp_oeq_eq_one _ _).mp h)
    · exact Or.inr ⟨(Ideal.cmp_oge_eq_one _ _).mp (bit_and h).1, (Ideal.cmp_ole_eq_one _ _).mp (bit_and h).2⟩
  · have h := Host.reduce_andi_all _ _ _ _ ix0 (congrFun h2 ix0) (ix3 b j k)
    have p := blockMax_host W (weight a0 a1 a2 a3 a4 a5 a6) hW shapeCasts_S5x512x1792_S5x4x128x14x128 reducesTo_S5x4x128x14x128_S5x4x14_d2_4 h_S_ b j k
    rw [ori_apply, andi_apply, cmpf_at, cmpf_at, cmpf_at, broadcastInDim_scalar_apply, broadcastInDim_scalar_apply, broadcastInDim_scalar_apply, constant_at, constant_at, constant_at,
      ValueIdx.mulf_apply, broadcastInDim_scalar_apply, constant_at, p, k0] at h
    rcases bit_or h with h | h
    · exact Or.inl ((Ideal.cmp_oeq_eq_one _ _).mp h)
    · exact Or.inr ⟨(Ideal.cmp_oge_eq_one _ _).mp (bit_and h).1, (Ideal.cmp_olt_eq_one _ _).mp (bit_and h).2⟩
  · have h := Host.reduce_andi_all _ _ _ _ ix0 (congrFun h3 ix0) (ix1 b)
    rw [cmpi_at, broadcastInDim_scalar_apply] at h
    intro z
    have z' : a6 (ix1 b) = 0#32 := BitVec.eq_of_toInt_eq (by simpa using z)
    rw [z'] at h
    revert h
    decide

end Cert.Pre_in_range.Hand

end
-- ==== Proof.Agreement.lean ====
/- Kernel and reference leave equal results: the value claim. -/
module

public import proofs.«01_k».proof.Defs
public import proofs.«01_k».proof.Proof.KernelValue
public import proofs.«01_k».proof.Proof.ReferenceArrays
public import proofs.«01_k».proof.Proof.Precondition

@[expose] public section

set_option maxRecDepth 16384

noncomputable section

namespace Cert.Agreement

open Cert.Adam
open Idealize.ShloMosaic hiding ix0 ix1 ix2 ix3 ix4 ix5
open Idealize.ShloMosaic.ValueIdx Idealize.ShloMosaic.TcCoe Idealize.SL.Sem

instance preFacts : Cert.Pre_in_range.Facts where
  bitsLt_bf16_f32 := by decide
  bcast_S_S5x512x1792 := Cert.ReferenceIdeal.Facts₀.bcast_S_S5x512x1792
  bcast_S_S5 := Cert.ReferenceIdeal.Facts₀.bcast_S_S5
  bcast_S5_S5x1x1_0 := Cert.ReferenceIdeal.Facts₀.bcast_S5_S5x1x1_0
  bcast_S5x1x1_S5x512x1792_0_1_2 := Cert.ReferenceIdeal.Facts₀.bcast_S5x1x1_S5x512x1792_0_1_2
  shapeCasts_S5x512x1792_S5x4x128x14x128 := Cert.ReferenceIdeal.Facts₀.shapeCasts_S5x512x1792_S5x4x128x14x128
  reducesTo_S5x4x128x14x128_S5x4x14_d2_4 := Cert.ReferenceIdeal.Facts₀.reducesTo_S5x4x128x14x128_S5x4x14_d2_4
  h_S_ := Cert.ReferenceIdeal.Facts₀.h_S_
  bcast_S_S5x4x14 := Cert.ReferenceIdeal.Facts₀.bcast_S_S5x4x14
  reducesTo_S5x512x1792_S_d0_1_2 := by decide
  reducesTo_S5x4x14_S_d0_1_2 := by decide
  reducesTo_S5_S_d0 := by decide

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on device `c`. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The reference's weight of the kernel's arguments. -/
abbrev weight (b : Fin 5) (r : Fin 512) (q : Fin 1792) : EReal :=
  Cert.Pre_in_range.Hand.weight (m ((c : Dev Cert.KernelIdeal.nD), Cert.KernelIdeal.main_arg0)) (m ((c : Dev Cert.KernelIdeal.nD), Cert.KernelIdeal.main_arg1)) (m ((c : Dev Cert.KernelIdeal.nD), Cert.KernelIdeal.main_arg2)) (m ((c : Dev Cert.KernelIdeal.nD), Cert.KernelIdeal.main_arg3)) (m ((c : Dev Cert.KernelIdeal.nD), Cert.KernelIdeal.main_arg4)) (m ((c : Dev Cert.KernelIdeal.nD), Cert.KernelIdeal.main_arg5)) (m ((c : Dev Cert.KernelIdeal.nD), Cert.KernelIdeal.main_arg6)) b r q

theorem given (h : Cert.Pre_KernelIdeal_in_range m) :
    (∀ i : Whole.Idx, vNew (m ((c : Dev Cert.KernelIdeal.nD), Cert.KernelIdeal.main_arg2) i) (m ((c : Dev Cert.KernelIdeal.nD), Cert.KernelIdeal.main_arg4) i) = 0
      ∨ K 0x00800000#32 ≤ vNew (m ((c : Dev Cert.KernelIdeal.nD), Cert.KernelIdeal.main_arg2) i) (m ((c : Dev Cert.KernelIdeal.nD), Cert.KernelIdeal.main_arg4) i)
        ∧ vNew (m ((c : Dev Cert.KernelIdeal.nD), Cert.KernelIdeal.main_arg2) i) (m ((c : Dev Cert.KernelIdeal.nD), Cert.KernelIdeal.main_arg4) i) ≤ K 0x7F7FFFFF#32)
    ∧ (∀ b j k, blockOf (weight m c) b j k * K 0x3B124925#32 = 0
        ∨ K 0x00800000#32 ≤ blockOf (weight m c) b j k * K 0x3B124925#32 ∧ blockOf (weight m c) b j k * K 0x3B124925#32 < K 0x7E800000#32)
    ∧ ∀ b : Fin 5, (show BitVec 32 from m ((c : Dev Cert.KernelIdeal.nD), Cert.KernelIdeal.main_arg6) (ix1 b)).toInt ≠ 0 :=
  Cert.Pre_in_range.Hand.fn_says _ _ _ _ _ _ _ (h c).1 (h c).2.1 (h c).2.2

theorem kernel_weight (h : Cert.Pre_KernelIdeal_in_range m) (b : Fin 5) (r : Fin 512) (q : Fin 1792) : Cert.KernelIdeal.Hand.kF m c b r q = weight m c b r q :=
  exact_eq _ _ _ _ _ _ _ ((given m c h).2.2 b) ((given m c h).1 (ix3 b r q))

theorem kernel_weights (h : Cert.Pre_KernelIdeal_in_range m) : Cert.KernelIdeal.Hand.kF m c = weight m c :=
  funext fun b => funext fun r => funext fun q => kernel_weight m c h b r q

theorem reference_weights (e : Same m m' c) : Cert.ReferenceIdeal.Hand.rF m' c = weight m c := by
  obtain ⟨e0, e1, e2, e3, e4, e5, e6⟩ := e
  funext b r q
  unfold Cert.ReferenceIdeal.Hand.rF
  erw [e0, e1, e2, e3, e4, e5, e6]
  rfl

theorem scales (h : Cert.Pre_KernelIdeal_in_range m) (b : Fin 5) (j : Fin 4) (k : Fin 14) :
    kernelScale (blockExponent (weight m c) b j k) = scaleOf (blockOf (weight m c) b j k) ∧ kernelInverse (blockExponent (weight m c) b j k) = inverseOf (blockOf (weight m c) b j k) :=
  scale_eq _ ((given m c h).2.1 b j k)

theorem codes (h : Cert.Pre_KernelIdeal_in_range m) (e : Same m m' c) (b : Fin 5) (r : Fin 512) (q : Fin 1792) : Cert.ReferenceIdeal.Hand.rCode m' c b r q = Cert.KernelIdeal.Hand.kCode m c b r q := by
  unfold Cert.ReferenceIdeal.Hand.rCode Cert.KernelIdeal.Hand.kCode
  rw [kernel_weights m c h, reference_weights m m' c e, (scales m c h b (rowBlock r) (colBlock q)).2]

theorem equal_0 (h : Cert.Pre_KernelIdeal_in_range m) (e : Same m m' c) : Cert.ReferenceIdeal.Gen.V m' c Cert.ReferenceIdeal.main_v45 = Cert.KernelIdeal.Hand.res7 m c := by
  rw [Cert.ReferenceIdeal.Hand.V_v45]
  unfold Cert.KernelIdeal.Hand.res7
  rw [kernel_weights m c h, reference_weights m m' c e]

theorem equal_1 (h : Cert.Pre_KernelIdeal_in_range m) (e : Same m m' c) : Cert.ReferenceIdeal.Gen.V m' c Cert.ReferenceIdeal.main_v48 = Cert.KernelIdeal.Hand.res8 m c := by
  rw [Cert.ReferenceIdeal.Hand.V_v48]
  unfold Cert.KernelIdeal.Hand.res8
  rw [kernel_weights m c h, reference_weights m m' c e]

theorem equal_2 (e : Same m m' c) : Cert.ReferenceIdeal.Gen.V m' c Cert.ReferenceIdeal.main_v8 = Cert.KernelIdeal.Hand.res9 m c := by
  rw [Cert.ReferenceIdeal.Hand.V_v8]
  unfold Cert.KernelIdeal.Hand.res9
  obtain ⟨e0, e1, e2, e3, e4, e5, e6⟩ := e
  funext i
  exact congrArg₂ mNew (congrFun e2 i) (congrFun e3 i)

theorem equal_3 (e : Same m m' c) : Cert.ReferenceIdeal.Gen.V m' c Cert.ReferenceIdeal.main_v15 = Cert.KernelIdeal.Hand.res10 m c := by
  rw [Cert.ReferenceIdeal.Hand.V_v15]
  unfold Cert.KernelIdeal.Hand.res10
  obtain ⟨e0, e1, e2, e3, e4, e5, e6⟩ := e
  funext i
  exact congrArg₂ vNew (congrFun e2 i) (congrFun e4 i)

theorem equal_4 (h : Cert.Pre_KernelIdeal_in_range m) (e : Same m m' c) : (Cert.ReferenceIdeal.Gen.dats m' 0 c).arrAt 2 Cert.ReferenceIdeal.cfg0.N = Cert.KernelIdeal.Hand.res11 m c := by
  rw [Cert.ReferenceIdeal.Hand.arr_2]
  funext i
  exact codes m m' c h e (i 0) (i 1) (i 2)

theorem equal_5 (h : Cert.Pre_KernelIdeal_in_range m) (e : Same m m' c) : Cert.ReferenceIdeal.Gen.V m' c Cert.ReferenceIdeal.main_v66 = Cert.KernelIdeal.Hand.res12 m c := by
  rw [Cert.ReferenceIdeal.Hand.V_v66]
  unfold Cert.KernelIdeal.Hand.res12
  rw [kernel_weights m c h, reference_weights m m' c e]
  funext i
  exact (scales m c h (i 0) (i 1) (i 2)).1.symm

theorem equal_6 (h : Cert.Pre_KernelIdeal_in_range m) (e : Same m m' c) : (Cert.ReferenceIdeal.Gen.dats m' 0 c).arrAt 3 Cert.ReferenceIdeal.cfg0.N = Cert.KernelIdeal.Hand.res13 m c := by
  rw [Cert.ReferenceIdeal.Hand.arr_3]
  funext i
  exact codes m m' c h e (i 0) (i 2) (i 1)

end

theorem algebraic : Cert.algebraic_KernelIdeal_ReferenceIdeal_pre_in_range := by
  intro m g m' g' h e
  refine ⟨Cert.KernelIdeal.Hand.res7 m, Cert.KernelIdeal.Hand.res8 m, Cert.KernelIdeal.Hand.res9 m, Cert.KernelIdeal.Hand.res10 m, Cert.KernelIdeal.Hand.res11 m, Cert.KernelIdeal.Hand.res12 m, Cert.KernelIdeal.Hand.res13 m, ?_, ?_⟩
  · refine (θ_run _ _ _).mono (fun r k c => ?_) (θ_run_and (Cert.KernelIdeal.Hand.run_main m g) (Cert.KernelIdeal.Hand.frame m g))
    exact ⟨((k.1 c).1 7).trans (Cert.KernelIdeal.Hand.arr_7 m c), ((k.1 c).1 8).trans (Cert.KernelIdeal.Hand.arr_8 m c), ((k.1 c).1 9).trans (Cert.KernelIdeal.Hand.arr_9 m c),
      ((k.1 c).1 10).trans (Cert.KernelIdeal.Hand.arr_10 m c), ((k.1 c).1 11).trans (Cert.KernelIdeal.Hand.arr_11 m c), ((k.1 c).1 12).trans (Cert.KernelIdeal.Hand.arr_12 m c),
      ((k.1 c).1 13).trans (Cert.KernelIdeal.Hand.arr_13 m c), k.2.1 c⟩
  · refine (θ_run _ _ _).mono (fun r k c => ?_) (Cert.ReferenceIdeal.Gen.run_main m' g')
    exact ⟨((k c).2 Cert.ReferenceIdeal.main_v45 (Pipeline.mem_restRefs_of Cert.ReferenceIdeal.main_v45 (by decide) (by decide))).trans (equal_0 m m' c h (e c)),
      ((k c).2 Cert.ReferenceIdeal.main_v48 (Pipeline.mem_restRefs_of Cert.ReferenceIdeal.main_v48 (by decide) (by decide))).trans (equal_1 m m' c h (e c)),
      ((k c).2 Cert.ReferenceIdeal.main_v8 (Pipeline.mem_restRefs_of Cert.ReferenceIdeal.main_v8 (by decide) (by decide))).trans (equal_2 m m' c (e c)),
      ((k c).2 Cert.ReferenceIdeal.main_v15 (Pipeline.mem_restRefs_of Cert.ReferenceIdeal.main_v15 (by decide) (by decide))).trans (equal_3 m m' c (e c)),
      (Cert.ReferenceIdeal.Value.post2 m' r k c).trans (equal_4 m m' c h (e c)),
      ((k c).2 Cert.ReferenceIdeal.main_v66 (Pipeline.mem_restRefs_of Cert.ReferenceIdeal.main_v66 (by decide) (by decide))).trans (equal_5 m m' c h (e c)),
      (Cert.ReferenceIdeal.Value.post3 m' r k c).trans (equal_6 m m' c h (e c)),
      Cert.ReferenceIdeal.Value.kept_main_arg0 m' r k c, Cert.ReferenceIdeal.Value.kept_main_arg1 m' r k c, Cert.ReferenceIdeal.Value.kept_main_arg2 m' r k c, Cert.ReferenceIdeal.Value.kept_main_arg3 m' r k c,
      Cert.ReferenceIdeal.Value.kept_main_arg4 m' r k c, Cert.ReferenceIdeal.Value.kept_main_arg5 m' r k c, Cert.ReferenceIdeal.Value.kept_main_arg6 m' r k c⟩

end Cert.Agreement

end
-- ==== Proof.lean ====
module

public import proofs.«01_k».proof.Defs
public import proofs.«01_k».proof.Proof.Gen.Kernel
public import proofs.«01_k».proof.Proof.KernelAsPrinted
public import proofs.«01_k».proof.Proof.Agreement
public import Idealize.ShloMosaic.Adequacy
public import Idealize.ShloMosaic.Init

@[expose] public section

/-- Everything the certificate claims. -/
theorem Cert.Proof.claim : Cert.Claim :=
  ⟨Cert.Kernel.Gen.facts, Cert.KernelIdeal.Gen.facts, Cert.ReferenceIdeal.Gen.facts, Cert.Agreement.preFacts,
    Cert.Kernel.Hand.frame,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial,
    Cert.Agreement.algebraic⟩

end
